-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1536, 3072]⟩ ⟨2, ![1536, 12288]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 3072]⟩ ⟨2, ![1536, 12288]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![3072, 1536]⟩ ⟨2, ![12288, 1536]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x1536 : Shape := ⟨2, ![1536, 1536]⟩
abbrev S1536x3072 : Shape := ⟨2, ![1536, 3072]⟩
abbrev S3072x1536 : Shape := ⟨2, ![3072, 1536]⟩
abbrev S1536x256 : Shape := ⟨2, ![1536, 256]⟩
abbrev S256x1536 : Shape := ⟨2, ![256, 1536]⟩
abbrev S16x192x1536 : Shape := ⟨3, ![16, 192, 1536]⟩
abbrev S12 : Shape := ⟨1, ![12]⟩
abbrev S_ : Shape := ⟨0, ![]⟩
abbrev S192x1536 : Shape := ⟨2, ![192, 1536]⟩
abbrev S1x192x1536 : Shape := ⟨3, ![1, 192, 1536]⟩
abbrev S1 : Shape := ⟨1, ![1]⟩

abbrev nBuf : Space → Nat
  | .hbm => 5
  | .vmem => 11
  | .smem => 0
  | _ => 0

abbrev bufTy : (tb : Table) → Fin (tcTables nBuf tb) → BufTy
  | .hbm, ⟨0, _⟩ => ⟨S1536x1536, .bf16⟩
  | .hbm, ⟨1, _⟩ => ⟨S1536x3072, .bf16⟩
  | .hbm, ⟨2, _⟩ => ⟨S1536x3072, .bf16⟩
  | .hbm, ⟨3, _⟩ => ⟨S3072x1536, .bf16⟩
  | .hbm, ⟨4, _⟩ => ⟨S1536x1536, .bf16⟩
  | .local _ .vmem, ⟨0, _⟩ => ⟨S1536x1536, .bf16⟩
  | .local _ .vmem, ⟨1, _⟩ => ⟨S1536x256, .bf16⟩
  | .local _ .vmem, ⟨2, _⟩ => ⟨S1536x256, .bf16⟩
  | .local _ .vmem, ⟨3, _⟩ => ⟨S1536x256, .bf16⟩
  | .local _ .vmem, ⟨4, _⟩ => ⟨S1536x256, .bf16⟩
  | .local _ .vmem, ⟨5, _⟩ => ⟨S256x1536, .bf16⟩
  | .local _ .vmem, ⟨6, _⟩ => ⟨S256x1536, .bf16⟩
  | .local _ .vmem, ⟨7, _⟩ => ⟨S1536x1536, .bf16⟩
  | .local _ .vmem, ⟨8, _⟩ => ⟨S1536x1536, .bf16⟩
  | .local _ .vmem, ⟨9, _⟩ => ⟨S1536x1536, .f32⟩
  | .local _ .vmem, ⟨10, _⟩ => ⟨S16x192x1536, .bf16⟩
  | _, _ => ⟨S1536x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev barrier0 : Sem sig := 0

abbrev nD : Nat := 4
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v23 : BitVec 1 := Scalar.cmpi .eq arg0 c11_i32
  let v24 : BitVec 32 := Scalar.extui v23
  let c0_i32_14 : BitVec 32 := 0#32
  let v25 : BitVec 1 := Scalar.cmpi .ne v24 c0_i32_14
  v25

def k0_dev1 (d26 : Dev nD) : Nat :=
  let c0_i32_32 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_22 : BitVec 32 := 4#32
  let v40 : BitVec 32 := Scalar.addi v28 c4_i32_22
  let c1_i32_23 : BitVec 32 := 1#32
  let v41 : BitVec 32 := Scalar.subi v40 c1_i32_23
  let c4_i32_24 : BitVec 32 := 4#32
  let c0_i32_25 : BitVec 32 := 0#32
  let v42 : BitVec 1 := Scalar.cmpi .eq c4_i32_24 c0_i32_25
  let c1_i32_26 : BitVec 32 := 1#32
  let v43 : BitVec 32 := Scalar.select v42 c1_i32_26 c4_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_31 : BitVec 32 := 1#32
  let v53 : BitVec 32 := Scalar.muli v51 c1_i32_31
  let v54 : BitVec 32 := Scalar.addi c0_i32_32 v53
  v54.toNat
def k0_dev2 (d26 : Dev nD) : Nat :=
  let c0_i32_35 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_34 : BitVec 32 := 1#32
  let v55 : BitVec 32 := Scalar.muli v39 c1_i32_34
  let v56 : BitVec 32 := Scalar.addi c0_i32_35 v55
  v56.toNat
def k0_off1 (d26 : Dev nD) : Fin 2 → Nat :=
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_36 : BitVec 32 := 4#32
  let v57 : BitVec 32 := Scalar.addi v28 c4_i32_36
  let c1_i32_37 : BitVec 32 := 1#32
  let v58 : BitVec 32 := Scalar.subi v57 c1_i32_37
  let c4_i32_38 : BitVec 32 := 4#32
  let c0_i32_39 : BitVec 32 := 0#32
  let v59 : BitVec 1 := Scalar.cmpi .eq c4_i32_38 c0_i32_39
  let c1_i32_40 : BitVec 32 := 1#32
  let v60 : BitVec 32 := Scalar.select v59 c1_i32_40 c4_i32_38
  let v61 : BitVec 32 := Scalar.remsi v58 v60
  let c0_i32_42 : BitVec 32 := 0#32
  let v63 : BitVec 1 := Scalar.cmpi .slt v61 c0_i32_42
  let c0_i32_43 : BitVec 32 := 0#32
  let v64 : BitVec 1 := Scalar.cmpi .slt v60 c0_i32_43
  let v65 : BitVec 1 := Scalar.xori v63 v64
  let c0_i32_41 : BitVec 32 := 0#32
  let v62 : BitVec 1 := Scalar.cmpi .ne v61 c0_i32_41
  let v66 : BitVec 1 := Scalar.andi v65 v62
  let v67 : BitVec 32 := Scalar.addi v61 v60
  let v68 : BitVec 32 := Scalar.select v66 v67 v61
  let c384_i32 : BitVec 32 := 384#32
  let v80 : BitVec 32 := Scalar.muli v68 c384_i32
  let v81 : Index := Scalar.indexCast v80
  let c0_51 : Index := 0#32
  ![v81.toNat, 0]
def k0_off2 (d26 : Dev nD) : Fin 2 → Nat :=
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_44 : BitVec 32 := 1#32
  let v69 : BitVec 32 := Scalar.addi v28 c1_i32_44
  let c4_i32_45 : BitVec 32 := 4#32
  let c0_i32_46 : BitVec 32 := 0#32
  let v70 : BitVec 1 := Scalar.cmpi .eq c4_i32_45 c0_i32_46
  let c1_i32_47 : BitVec 32 := 1#32
  let v71 : BitVec 32 := Scalar.select v70 c1_i32_47 c4_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c384_i32_55 : BitVec 32 := 384#32
  let v87 : BitVec 32 := Scalar.muli v79 c384_i32_55
  let c192_i32 : BitVec 32 := 192#32
  let v88 : BitVec 32 := Scalar.addi v87 c192_i32
  let v89 : Index := Scalar.indexCast v88
  let c0_56 : Index := 0#32
  ![v89.toNat, 0]
def k0_dev3 (d26 : Dev nD) : Nat :=
  let c0_i32_64 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_63 : BitVec 32 := 1#32
  let v95 : BitVec 32 := Scalar.muli v39 c1_i32_63
  let v96 : BitVec 32 := Scalar.addi c0_i32_64 v95
  v96.toNat
def k0_dev4 (d26 : Dev nD) : Nat :=
  let c0_i32_71 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_22 : BitVec 32 := 4#32
  let v40 : BitVec 32 := Scalar.addi v28 c4_i32_22
  let c1_i32_23 : BitVec 32 := 1#32
  let v41 : BitVec 32 := Scalar.subi v40 c1_i32_23
  let c4_i32_24 : BitVec 32 := 4#32
  let c0_i32_25 : BitVec 32 := 0#32
  let v42 : BitVec 1 := Scalar.cmpi .eq c4_i32_24 c0_i32_25
  let c1_i32_26 : BitVec 32 := 1#32
  let v43 : BitVec 32 := Scalar.select v42 c1_i32_26 c4_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_70 : BitVec 32 := 1#32
  let v105 : BitVec 32 := Scalar.muli v51 c1_i32_70
  let v106 : BitVec 32 := Scalar.addi c0_i32_71 v105
  v106.toNat
def k0_off3 (d26 : Dev nD) (c2_i32_115 : BitVec 32) (c0_i32_116 : BitVec 32) : Fin 2 → Nat :=
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_114 : BitVec 32 := 4#32
  let v143 : BitVec 32 := Scalar.addi v28 c4_i32_114
  let v144 : BitVec 32 := Scalar.subi v143 c2_i32_115
  let v145 : BitVec 32 := Scalar.subi v144 c0_i32_116
  let c4_i32_117 : BitVec 32 := 4#32
  let c0_i32_118 : BitVec 32 := 0#32
  let v146 : BitVec 1 := Scalar.cmpi .eq c4_i32_117 c0_i32_118
  let c1_i32_119 : BitVec 32 := 1#32
  let v147 : BitVec 32 := Scalar.select v146 c1_i32_119 c4_i32_117
  let v148 : BitVec 32 := Scalar.remsi v145 v147
  let c0_i32_121 : BitVec 32 := 0#32
  let v150 : BitVec 1 := Scalar.cmpi .slt v148 c0_i32_121
  let c0_i32_122 : BitVec 32 := 0#32
  let v151 : BitVec 1 := Scalar.cmpi .slt v147 c0_i32_122
  let v152 : BitVec 1 := Scalar.xori v150 v151
  let c0_i32_120 : BitVec 32 := 0#32
  let v149 : BitVec 1 := Scalar.cmpi .ne v148 c0_i32_120
  let v153 : BitVec 1 := Scalar.andi v152 v149
  let v154 : BitVec 32 := Scalar.addi v148 v147
  let v155 : BitVec 32 := Scalar.select v153 v154 v148
  let c384_i32_133 : BitVec 32 := 384#32
  let v171 : BitVec 32 := Scalar.muli v155 c384_i32_133
  let v172 : Index := Scalar.indexCast v171
  let c0_134 : Index := 0#32
  ![v172.toNat, 0]
def k0_off4 (d26 : Dev nD) (c2_i32_123 : BitVec 32) (c0_i32_124 : BitVec 32) : Fin 2 → Nat :=
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let v156 : BitVec 32 := Scalar.addi v28 c2_i32_123
  let v157 : BitVec 32 := Scalar.addi v156 c0_i32_124
  let c4_i32_125 : BitVec 32 := 4#32
  let c0_i32_126 : BitVec 32 := 0#32
  let v158 : BitVec 1 := Scalar.cmpi .eq c4_i32_125 c0_i32_126
  let c1_i32_127 : BitVec 32 := 1#32
  let v159 : BitVec 32 := Scalar.select v158 c1_i32_127 c4_i32_125
  let v160 : BitVec 32 := Scalar.remsi v157 v159
  let c0_i32_129 : BitVec 32 := 0#32
  let v162 : BitVec 1 := Scalar.cmpi .slt v160 c0_i32_129
  let c0_i32_130 : BitVec 32 := 0#32
  let v163 : BitVec 1 := Scalar.cmpi .slt v159 c0_i32_130
  let v164 : BitVec 1 := Scalar.xori v162 v163
  let c0_i32_128 : BitVec 32 := 0#32
  let v161 : BitVec 1 := Scalar.cmpi .ne v160 c0_i32_128
  let v165 : BitVec 1 := Scalar.andi v164 v161
  let v166 : BitVec 32 := Scalar.addi v160 v159
  let v167 : BitVec 32 := Scalar.select v165 v166 v160
  let c384_i32_137 : BitVec 32 := 384#32
  let v178 : BitVec 32 := Scalar.muli v167 c384_i32_137
  let c192_i32_138 : BitVec 32 := 192#32
  let v179 : BitVec 32 := Scalar.addi v178 c192_i32_138
  let v180 : Index := Scalar.indexCast v179
  let c0_139 : Index := 0#32
  ![v180.toNat, 0]
def k0_dev5 (d26 : Dev nD) : Nat :=
  let c0_i32_151 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_150 : BitVec 32 := 1#32
  let v191 : BitVec 32 := Scalar.muli v39 c1_i32_150
  let v192 : BitVec 32 := Scalar.addi c0_i32_151 v191
  v192.toNat
def k0_dev6 (d26 : Dev nD) : Nat :=
  let c0_i32_159 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_22 : BitVec 32 := 4#32
  let v40 : BitVec 32 := Scalar.addi v28 c4_i32_22
  let c1_i32_23 : BitVec 32 := 1#32
  let v41 : BitVec 32 := Scalar.subi v40 c1_i32_23
  let c4_i32_24 : BitVec 32 := 4#32
  let c0_i32_25 : BitVec 32 := 0#32
  let v42 : BitVec 1 := Scalar.cmpi .eq c4_i32_24 c0_i32_25
  let c1_i32_26 : BitVec 32 := 1#32
  let v43 : BitVec 32 := Scalar.select v42 c1_i32_26 c4_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_158 : BitVec 32 := 1#32
  let v201 : BitVec 32 := Scalar.muli v51 c1_i32_158
  let v202 : BitVec 32 := Scalar.addi c0_i32_159 v201
  v202.toNat
def k0_dev7 (d26 : Dev nD) : Nat :=
  let c0_i32_238 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_237 : BitVec 32 := 1#32
  let v287 : BitVec 32 := Scalar.muli v39 c1_i32_237
  let v288 : BitVec 32 := Scalar.addi c0_i32_238 v287
  v288.toNat
def k0_dev8 (d26 : Dev nD) : Nat :=
  let c0_i32_248 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_22 : BitVec 32 := 4#32
  let v40 : BitVec 32 := Scalar.addi v28 c4_i32_22
  let c1_i32_23 : BitVec 32 := 1#32
  let v41 : BitVec 32 := Scalar.subi v40 c1_i32_23
  let c4_i32_24 : BitVec 32 := 4#32
  let c0_i32_25 : BitVec 32 := 0#32
  let v42 : BitVec 1 := Scalar.cmpi .eq c4_i32_24 c0_i32_25
  let c1_i32_26 : BitVec 32 := 1#32
  let v43 : BitVec 32 := Scalar.select v42 c1_i32_26 c4_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_247 : BitVec 32 := 1#32
  let v297 : BitVec 32 := Scalar.muli v51 c1_i32_247
  let v298 : BitVec 32 := Scalar.addi c0_i32_248 v297
  v298.toNat
def k0_off5 (d26 : Dev nD) : Fin 2 → Nat :=
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c384_i32_317 : BitVec 32 := 384#32
  let v376 : BitVec 32 := Scalar.muli v28 c384_i32_317
  let v377 : Index := Scalar.indexCast v376
  let c0_318 : Index := 0#32
  ![v377.toNat, 0]
def k0_off6 (d26 : Dev nD) : Fin 2 → Nat :=
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c384_i32_319 : BitVec 32 := 384#32
  let v380 : BitVec 32 := Scalar.muli v28 c384_i32_319
  let c192_i32_320 : BitVec 32 := 192#32
  let v381 : BitVec 32 := Scalar.addi v380 c192_i32_320
  let v382 : Index := Scalar.indexCast v381
  let c0_321 : Index := 0#32
  ![v382.toNat, 0]
def k0_dev9 (d26 : Dev nD) : Nat :=
  let c0_i32_330 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_329 : BitVec 32 := 1#32
  let v392 : BitVec 32 := Scalar.muli v39 c1_i32_329
  let v393 : BitVec 32 := Scalar.addi c0_i32_330 v392
  v393.toNat
def k0_dev10 (d26 : Dev nD) : Nat :=
  let c0_i32_338 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_22 : BitVec 32 := 4#32
  let v40 : BitVec 32 := Scalar.addi v28 c4_i32_22
  let c1_i32_23 : BitVec 32 := 1#32
  let v41 : BitVec 32 := Scalar.subi v40 c1_i32_23
  let c4_i32_24 : BitVec 32 := 4#32
  let c0_i32_25 : BitVec 32 := 0#32
  let v42 : BitVec 1 := Scalar.cmpi .eq c4_i32_24 c0_i32_25
  let c1_i32_26 : BitVec 32 := 1#32
  let v43 : BitVec 32 := Scalar.select v42 c1_i32_26 c4_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_337 : BitVec 32 := 1#32
  let v402 : BitVec 32 := Scalar.muli v51 c1_i32_337
  let v403 : BitVec 32 := Scalar.addi c0_i32_338 v402
  v403.toNat
def k0_dev11 (d26 : Dev nD) : Nat :=
  let c0_i32_412 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_411 : BitVec 32 := 1#32
  let v476 : BitVec 32 := Scalar.muli v39 c1_i32_411
  let v477 : BitVec 32 := Scalar.addi c0_i32_412 v476
  v477.toNat
def k0_dev12 (d26 : Dev nD) : Nat :=
  let c0_i32_421 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_22 : BitVec 32 := 4#32
  let v40 : BitVec 32 := Scalar.addi v28 c4_i32_22
  let c1_i32_23 : BitVec 32 := 1#32
  let v41 : BitVec 32 := Scalar.subi v40 c1_i32_23
  let c4_i32_24 : BitVec 32 := 4#32
  let c0_i32_25 : BitVec 32 := 0#32
  let v42 : BitVec 1 := Scalar.cmpi .eq c4_i32_24 c0_i32_25
  let c1_i32_26 : BitVec 32 := 1#32
  let v43 : BitVec 32 := Scalar.select v42 c1_i32_26 c4_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_420 : BitVec 32 := 1#32
  let v486 : BitVec 32 := Scalar.muli v51 c1_i32_420
  let v487 : BitVec 32 := Scalar.addi c0_i32_421 v486
  v487.toNat
def k0_dev13 (d26 : Dev nD) : Nat :=
  let c0_i32_495 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_494 : BitVec 32 := 1#32
  let v560 : BitVec 32 := Scalar.muli v39 c1_i32_494
  let v561 : BitVec 32 := Scalar.addi c0_i32_495 v560
  v561.toNat
def k0_dev14 (d26 : Dev nD) : Nat :=
  let c0_i32_504 : BitVec 32 := 0#32
  let v26 : BitVec 32 := Dev.word d26
  let c1_i32 : BitVec 32 := 1#32
  let v27 : BitVec 32 := Scalar.divsi v26 c1_i32
  let c4_i32 : BitVec 32 := 4#32
  let v28 : BitVec 32 := Scalar.remsi v27 c4_i32
  let c4_i32_22 : BitVec 32 := 4#32
  let v40 : BitVec 32 := Scalar.addi v28 c4_i32_22
  let c1_i32_23 : BitVec 32 := 1#32
  let v41 : BitVec 32 := Scalar.subi v40 c1_i32_23
  let c4_i32_24 : BitVec 32 := 4#32
  let c0_i32_25 : BitVec 32 := 0#32
  let v42 : BitVec 1 := Scalar.cmpi .eq c4_i32_24 c0_i32_25
  let c1_i32_26 : BitVec 32 := 1#32
  let v43 : BitVec 32 := Scalar.select v42 c1_i32_26 c4_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_503 : BitVec 32 := 1#32
  let v570 : BitVec 32 := Scalar.muli v51 c1_i32_503
  let v571 : BitVec 32 := Scalar.addi c0_i32_504 v570
  v571.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1536x1536 : Shape := ⟨2, ![1536, 1536]⟩
abbrev S1536x12288 : Shape := ⟨2, ![1536, 12288]⟩
abbrev S12288x1536 : Shape := ⟨2, ![12288, 1536]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1536x1536, .bf16⟩
  | .hbm, ⟨1, _⟩ => ⟨S1536x12288, .bf16⟩
  | .hbm, ⟨2, _⟩ => ⟨S1536x12288, .bf16⟩
  | .hbm, ⟨3, _⟩ => ⟨S12288x1536, .bf16⟩
  | .hbm, ⟨4, _⟩ => ⟨S1536x12288, .f32⟩
  | .hbm, ⟨5, _⟩ => ⟨S1536x12288, .bf16⟩
  | .hbm, ⟨6, _⟩ => ⟨S1536x12288, .f32⟩
  | .hbm, ⟨7, _⟩ => ⟨S1536x12288, .bf16⟩
  | .hbm, ⟨8, _⟩ => ⟨S1536x12288, .bf16⟩
  | .hbm, ⟨9, _⟩ => ⟨S1536x12288, .bf16⟩
  | .hbm, ⟨10, _⟩ => ⟨S_, .bf16⟩
  | .hbm, ⟨11, _⟩ => ⟨S1536x12288, .bf16⟩
  | .hbm, ⟨12, _⟩ => ⟨S1536x12288, .bf16⟩
  | .hbm, ⟨13, _⟩ => ⟨S1536x12288, .bf16⟩
  | .hbm, ⟨14, _⟩ => ⟨S1536x12288, .bf16⟩
  | .hbm, ⟨15, _⟩ => ⟨S1536x1536, .f32⟩
  | .hbm, ⟨16, _⟩ => ⟨S1536x1536, .bf16⟩
  | _, _ => ⟨S1536x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Ring.lean ====
/-
The ring of four devices: each device's two neighbours, the device the kernel names at each of its
signals and transfers, and the block of 192 rows it reads or writes at each of its computed offsets.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe

set_option backward.proofsInPublic true in
/-- The device one place to the right. -/
def right (c : Dev nD) : Dev nD := ⟨(c.val + 1) % 4, Nat.mod_lt _ (by decide)⟩

set_option backward.proofsInPublic true in
/-- The device one place to the left. -/
def left (c : Dev nD) : Dev nD := ⟨(c.val + 3) % 4, Nat.mod_lt _ (by decide)⟩

/-- The neighbour that the traffic of one direction comes from: `true` is the direction to the right. -/
def src (b : Bool) (c : Dev nD) : Dev nD := if b then left c else right c

/-- The neighbour that the traffic of one direction goes to. -/
def dst (b : Bool) (c : Dev nD) : Dev nD := if b then right c else left c

theorem src_dst : ∀ (b : Bool) (c : Dev nD), src b (dst b c) = c := by decide
theorem dst_src : ∀ (b : Bool) (c : Dev nD), dst b (src b c) = c := by decide
theorem src_four : ∀ (b : Bool) (c : Dev nD), src b (src b (src b (src b c))) = c := by decide
theorem dst_not : ∀ (b : Bool) (c : Dev nD), dst (!b) c = src b c := by decide
theorem src_ne_dst : ∀ c : Dev nD, dst true c ≠ dst false c := by decide

/-- Going one place round the ring, as a permutation of the devices. -/
def turn (b : Bool) : Dev nD ≃ Dev nD := ⟨dst b, src b, src_dst b, dst_src b⟩

set_option backward.proofsInPublic true in
/-- The number of the half block (192 rows) of device `c` that travels in direction `b`. -/
def half (b : Bool) (c : Dev nD) : Fin 8 := ⟨2 * c.val + (if b then 0 else 1), by have := c.isLt; change c.val < 4 at this; split <;> omega⟩

/-! ## The devices the kernel names -/

theorem sig1 : ∀ c : Dev nD, k0_dev1 c = (dst false c).val := by decide +kernel
theorem sig2 : ∀ c : Dev nD, k0_dev2 c = (dst true c).val := by decide +kernel
theorem to3 : ∀ c : Dev nD, k0_dev3 c = (dst true c).val := by decide +kernel
theorem to4 : ∀ c : Dev nD, k0_dev4 c = (dst false c).val := by decide +kernel
theorem to5 : ∀ c : Dev nD, k0_dev5 c = (dst true c).val := by decide +kernel
theorem to6 : ∀ c : Dev nD, k0_dev6 c = (dst false c).val := by decide +kernel
theorem to7 : ∀ c : Dev nD, k0_dev7 c = (dst true c).val := by decide +kernel
theorem to8 : ∀ c : Dev nD, k0_dev8 c = (dst false c).val := by decide +kernel
theorem to9 : ∀ c : Dev nD, k0_dev9 c = (dst true c).val := by decide +kernel
theorem to10 : ∀ c : Dev nD, k0_dev10 c = (dst false c).val := by decide +kernel
theorem to11 : ∀ c : Dev nD, k0_dev11 c = (dst true c).val := by decide +kernel
theorem to12 : ∀ c : Dev nD, k0_dev12 c = (dst false c).val := by decide +kernel
theorem to13 : ∀ c : Dev nD, k0_dev13 c = (dst true c).val := by decide +kernel
theorem to14 : ∀ c : Dev nD, k0_dev14 c = (dst false c).val := by decide +kernel

/-! ## The rows the kernel's offsets name -/

theorem row1 : ∀ c : Dev nD, k0_off1 c = ![192 * (half true (src true c)).val, 0] := by decide +kernel
theorem row2 : ∀ c : Dev nD, k0_off2 c = ![192 * (half false (src false c)).val, 0] := by decide +kernel
theorem row3_0 : ∀ c : Dev nD, k0_off3 c 2#32 0#32 = ![192 * (half true (src true (src true c))).val, 0] := by decide +kernel
theorem row3_1 : ∀ c : Dev nD, k0_off3 c 2#32 1#32 = ![192 * (half true (src true (src true (src true c)))).val, 0] := by decide +kernel
theorem row3_2 : ∀ c : Dev nD, k0_off3 c 2#32 2#32 = ![192 * (half true c).val, 0] := by decide +kernel
theorem row4_0 : ∀ c : Dev nD, k0_off4 c 2#32 0#32 = ![192 * (half false (src false (src false c))).val, 0] := by decide +kernel
theorem row4_1 : ∀ c : Dev nD, k0_off4 c 2#32 1#32 = ![192 * (half false (src false (src false (src false c)))).val, 0] := by decide +kernel
theorem row4_2 : ∀ c : Dev nD, k0_off4 c 2#32 2#32 = ![192 * (half false c).val, 0] := by decide +kernel
theorem row5 : ∀ c : Dev nD, k0_off5 c = ![192 * (half true c).val, 0] := by decide +kernel
theorem row6 : ∀ c : Dev nD, k0_off6 c = ![192 * (half false c).val, 0] := by decide +kernel
theorem out3_0 : ∀ c : Dev nD, k0_off3 c 1#32 0#32 = ![192 * (half true (src true c)).val, 0] := by decide +kernel
theorem out3_1 : ∀ c : Dev nD, k0_off3 c 1#32 1#32 = ![192 * (half true (src true (src true c))).val, 0] := by decide +kernel
theorem out3_2 : ∀ c : Dev nD, k0_off3 c 1#32 2#32 = ![192 * (half true (src true (src true (src true c)))).val, 0] := by decide +kernel
theorem out4_0 : ∀ c : Dev nD, k0_off4 c 1#32 0#32 = ![192 * (half false (src false c)).val, 0] := by decide +kernel
theorem out4_1 : ∀ c : Dev nD, k0_off4 c 1#32 1#32 = ![192 * (half false (src false (src false c))).val, 0] := by decide +kernel
theorem out4_2 : ∀ c : Dev nD, k0_off4 c 1#32 2#32 = ![192 * (half false (src false (src false (src false c)))).val, 0] := by decide +kernel

/-- Every half block is that of one device and one direction. -/
theorem half_onto : ∀ (b : Bool) (c : Dev nD) (i : Fin 8),
    i = half b c ∨ i = half b (src b c) ∨ i = half b (src b (src b c)) ∨ i = half b (src b (src b (src b c)))
    ∨ i = half (!b) c ∨ i = half (!b) (src (!b) c) ∨ i = half (!b) (src (!b) (src (!b) c)) ∨ i = half (!b) (src (!b) (src (!b) (src (!b) c))) := by decide +kernel

end Cert.RingProof

end
-- ==== Proof.Slots.lean ====
/-
The communication buffer: sixteen slots of 192 rows each. What it is to hold one slot at given
contents, the kernel's load and store of a slot, what a transfer from one slot to another leaves, and
the whole buffer as its sixteen slots.
-/
module

public import proofs.«01_k».proof.Proof.Ring
public import Idealize.ShloMosaic.Lib.ViewIndex

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the ring's cells: one round each, its duties named by a direction. -/
abbrev RingAlg : Type := URounds (GSem nD τ sig) Bool
/-- The ghost state of the launch: the pipeline's, beside the ring's. -/
abbrev Alg : Type := UR sig nD τ × RingAlg

local notation "𝕄" => MT nD τ sig Unit (Elt F) ℕ Alg ℕ

/-- A half block: 192 rows of the result. -/
abbrev Blk (F : FTy → Type) [FloatOps F] : Type := FVec F S192x1536 .bf16

/-- A half block as a slot holds it. -/
def up (v : Blk F) : FVec F S1x192x1536 .bf16 := shapeCast S1x192x1536 v shapeCasts_S192x1536_S1x192x1536

/-- A slot's contents as a half block. -/
def dn (X : FVec F S1x192x1536 .bf16) : Blk F := shapeCast S192x1536 X shapeCasts_S1x192x1536_S192x1536

theorem dn_up (v : Blk F) : dn (up v) = v := by
  funext j
  unfold dn up shapeCast
  congr 1
  unfold Shape.reshapeEquiv
  simp

theorem slot_inb {k : ℕ} (hk : k < 16) : ∀ a, (![k, 0, 0] : Fin 3 → ℕ) a + S1x192x1536.size a ≤ S16x192x1536.size a := by
  intro a
  match a with
  | ⟨0, _⟩ => change k + 1 ≤ 16; omega
  | ⟨1, _⟩ => change 0 + 192 ≤ 192; omega
  | ⟨2, _⟩ => change 0 + 1536 ≤ 1536; omega

/-- The rectangle of slot `k`. -/
abbrev slotRect (k : ℕ) (hk : k < 16) : Rect S16x192x1536 := Rect.unit (s := S16x192x1536) ![k, 0, 0] S1x192x1536.size (slot_inb hk)

/-- The whole communication buffer. -/
abbrev comm : Memref sig .tc .vmem S16x192x1536 .bf16 := Memref.whole cc0_scratch2

/-- Slot `k` as the loads and stores see it. -/
abbrev slotV (k : ℕ) (hk : k < 16) : View sig .tc .vmem S1x192x1536 .bf16 := comm.access (slotRect k hk)

/-- Slot `k` as the transfers see it. -/
abbrev slotM (k : ℕ) (hk : k < 16) : Memref sig .tc .vmem S192x1536 .bf16 :=
  (comm.slice (slotRect k hk) (fun _ => rfl)).squeeze S192x1536 squeezes_S1x192x1536_S192x1536

/-- Where device `c`'s communication buffer lies. -/
abbrev commL (c : Dev nD) : Loc nD τ sig := (c : Thread nD τ).loc cc0_scratch2

/-- The elements of slot `k`. -/
abbrev slotS (k : ℕ) (hk : k < 16) : Finset S16x192x1536.Idx := (slotV k hk).set

/-- The kernel's loops have no variants. -/
abbrev 𝒱₀ : Variants := Variants.none

/-- Device `c` holds slot `k`, with contents `X`. -/
def slot (c : Dev nD) (k : ℕ) (hk : k < 16) (X : FVec F S1x192x1536 .bf16) : sProp 𝕄 :=
  iprop(∃ f : Buf (Elt F) (commL c), ⌜(slotV k hk).read (Elt F) f = X⌝
    ∗ ((commL c) ↦[slotS k hk]{fullShare} f))

/-- Device `c` holds slot `k`, with some contents. -/
def slotAny (c : Dev nD) (k : ℕ) (hk : k < 16) : sProp 𝕄 := iprop(∃ X, slot (F := F) c k hk X)

theorem slotAny_intro (c : Dev nD) (k : ℕ) (hk : k < 16) (X : FVec F S1x192x1536 .bf16) :
    slot c k hk X ⊢ slotAny (F := F) c k hk := by
  unfold slotAny; iintro H; iexists X; iexact H

theorem slotM_set (k : ℕ) (hk : k < 16) : (slotM k hk).view.set = slotS k hk :=
  View.set_reshape (slotV k hk) _

/-- What lands in slot `k'` from slot `k` is read there as it was read here. -/
theorem landed (k k' : ℕ) (hk : k < 16) (hk' : k' < 16) (fs fd : comm.view.ty.Contents (Elt F)) :
    (slotV k' hk').read (Elt F) ((slotM k' hk').view.write (Elt F) fd ((slotM k hk).view.read (Elt F) fs) Finset.univ)
      = (slotV k hk).read (Elt F) fs := by
  funext y
  obtain ⟨x, rfl⟩ := (Shape.reshapeEquiv (s := S1x192x1536) (s' := S192x1536) (by decide)).surjective y
  exact View.read_write_reshape (slotV k' hk') _ fd ((slotM k hk).view.read (Elt F) fs) x

/-- The kernel's load of a slot. -/
theorem wp_loadSlot (c : Dev nD) {α : Type} {Q : α → sProp 𝕄} {k : ℕ} {hk : k < 16} {X : FVec F S1x192x1536 .bf16}
    {hl : comm.view.LoadsAt (slotRect k hk).toLoadRect}
    {K : (S1x192x1536.Idx → Elt F .bf16) → Prog (TpuEff nD τ sig (Elt F) Λ₀ .tc) α} :
    slot c k hk X
      ⊢ iprop((slot c k hk X -∗ wp frame (wpE (defs₀ (F := F)) 𝒱₀ (c : Thread nD τ) none) Set.univ (K X) Q)
        -∗ wp frame (wpE (defs₀ (F := F)) 𝒱₀ (c : Thread nD τ) none) Set.univ (.op (.load comm (slotRect k hk).toLoadRect hl) K) Q) := by
  unfold slot
  iintro ⟨%f, %hf, H⟩ HK
  subst hf
  have hS : (comm.access (slotRect k hk)).set ⊆ slotS k hk := Finset.Subset.refl _
  iapply (wp_load_rect 𝒱₀ (c : Thread nD τ) none Set.univ (m := comm) (r := slotRect k hk) (S := slotS k hk) (f := f) hS) $$ H
  iintro H
  iapply HK
  iexists f
  isplitr; · ipureintro; rfl
  iexact H

/-- The kernel's store of a whole slot. -/
theorem wp_storeSlot (c : Dev nD) {α : Type} {Q : α → sProp 𝕄} {k : ℕ} {hk : k < 16} {X w : FVec F S1x192x1536 .bf16} {hx : (comm.access (slotRect k hk)).Stores Finset.univ}
    {hm : Finset.univ = (Finset.univ : Finset (slotRect k hk).shape.Idx) ∨ ∀ a, (slotRect k hk).stride a = 1}
    {K : PUnit → Prog (TpuEff nD τ sig (Elt F) Λ₀ .tc) α} :
    slot c k hk X
      ⊢ iprop((slot c k hk w -∗ wp frame (wpE (defs₀ (F := F)) 𝒱₀ (c : Thread nD τ) none) Set.univ (K ⟨⟩) Q)
        -∗ wp frame (wpE (defs₀ (F := F)) 𝒱₀ (c : Thread nD τ) none) Set.univ (.op (.store comm (slotRect k hk) w Finset.univ hx hm) K) Q) := by
  unfold slot
  iintro ⟨%f, %hf, H⟩ HK
  have hS : (comm.access (slotRect k hk)).setOn Finset.univ ⊆ slotS k hk := Finset.Subset.refl _
  iapply (wp_store 𝒱₀ (c : Thread nD τ) none Set.univ (m := comm) (r := slotRect k hk) (Mk := Finset.univ) (S := slotS k hk) (f := f) hS) $$ H
  iintro H
  iapply HK
  iexists _
  isplitr
  · ipureintro; exact View.read_write_univ (v := slotV k hk) f w
  iexact H

/-- A load of a slot of unknown contents, whose value does not matter. -/
theorem wp_loadAny (c : Dev nD) {α : Type} {Q : α → sProp 𝕄} {k : ℕ} {hk : k < 16}
    {hl : comm.view.LoadsAt (slotRect k hk).toLoadRect}
    {K : (S1x192x1536.Idx → Elt F .bf16) → Prog (TpuEff nD τ sig (Elt F) Λ₀ .tc) α} :
    slotAny (F := F) c k hk
      ⊢ iprop((∀ X, slotAny (F := F) c k hk -∗ wp frame (wpE (defs₀ (F := F)) 𝒱₀ (c : Thread nD τ) none) Set.univ (K X) Q)
        -∗ wp frame (wpE (defs₀ (F := F)) 𝒱₀ (c : Thread nD τ) none) Set.univ (.op (.load comm (slotRect k hk).toLoadRect hl) K) Q) := by
  iintro H HK
  unfold slotAny
  icases H with ⟨%X, H⟩
  iapply (wp_loadSlot c) $$ H
  iintro H
  iapply HK
  iexists X; iexact H

/-- A store of a slot of unknown contents. -/
theorem wp_storeAny (c : Dev nD) {α : Type} {Q : α → sProp 𝕄} {k : ℕ} {hk : k < 16} {w X : FVec F S1x192x1536 .bf16} (hw : w = X)
    {hx : (comm.access (slotRect k hk)).Stores Finset.univ}
    {hm : Finset.univ = (Finset.univ : Finset (slotRect k hk).shape.Idx) ∨ ∀ a, (slotRect k hk).stride a = 1}
    {K : PUnit → Prog (TpuEff nD τ sig (Elt F) Λ₀ .tc) α} :
    slotAny (F := F) c k hk
      ⊢ iprop((slot c k hk X -∗ wp frame (wpE (defs₀ (F := F)) 𝒱₀ (c : Thread nD τ) none) Set.univ (K ⟨⟩) Q)
        -∗ wp frame (wpE (defs₀ (F := F)) 𝒱₀ (c : Thread nD τ) none) Set.univ (.op (.store comm (slotRect k hk) w Finset.univ hx hm) K) Q) := by
  subst hw
  iintro H HK
  unfold slotAny
  icases H with ⟨%X, H⟩
  iapply (wp_storeSlot c) $$ H
  iexact HK

/-- A slot of unknown contents is loaded, its value unused, and then stored. -/
theorem wp_put (c : Dev nD) {α : Type} {Q : α → sProp 𝕄} {k : ℕ} {hk : k < 16} {w X : FVec F S1x192x1536 .bf16} (hw : w = X)
    {hl : comm.view.LoadsAt (slotRect k hk).toLoadRect} {hx : (comm.access (slotRect k hk)).Stores Finset.univ}
    {hm : Finset.univ = (Finset.univ : Finset (slotRect k hk).shape.Idx) ∨ ∀ a, (slotRect k hk).stride a = 1}
    {K : PUnit → Prog (TpuEff nD τ sig (Elt F) Λ₀ .tc) α} :
    slotAny (F := F) c k hk
      ⊢ iprop((slot c k hk X -∗ wp frame (wpE (defs₀ (F := F)) 𝒱₀ (c : Thread nD τ) none) Set.univ (K ⟨⟩) Q)
        -∗ wp frame (wpE (defs₀ (F := F)) 𝒱₀ (c : Thread nD τ) none) Set.univ
          (.op (.load comm (slotRect k hk).toLoadRect hl) fun _ => .op (.store comm (slotRect k hk) w Finset.univ hx hm) K) Q) := by
  iintro H HK
  iapply (wp_loadAny c) $$ H
  iintro %_ H
  iapply (wp_storeAny c hw) $$ H
  iexact HK

/-! ## The whole buffer -/

theorem slot_disjoint {k k' : ℕ} (hk : k < 16) (hk' : k' < 16) (h : k ≠ k') : Disjoint (slotS k hk) (slotS k' hk') := by
  apply View.disjoint_slice
  rw [Finset.disjoint_left]
  intro i hi hi'
  have h0 := (Rect.mem_set_unit.mp hi) 0
  have h1 := (Rect.mem_set_unit.mp hi') 0
  change k ≤ _ ∧ _ < k + 1 at h0
  change k' ≤ _ ∧ _ < k' + 1 at h1
  omega

theorem slot_cover : (Finset.univ.biUnion fun k : Fin 16 => slotS k.val k.isLt) = Finset.univ := by
  rw [Finset.eq_univ_iff_forall]
  intro i
  rw [Finset.mem_biUnion]
  refine ⟨⟨(i 0).val, (i 0).isLt⟩, Finset.mem_univ _, ?_⟩
  have e : slotS (i 0).val (i 0).isLt = (slotRect (i 0).val (i 0).isLt).set.map comm.view.emb := View.set_slice comm.view _
  rw [e]
  refine Finset.mem_map.mpr ⟨i, Rect.mem_set_unit.mpr fun a => ?_, rfl⟩
  match a with
  | ⟨0, _⟩ => exact ⟨le_refl _, Nat.lt_succ_self _⟩
  | ⟨1, _⟩ => exact ⟨Nat.zero_le _, by simpa using (i 1).isLt⟩
  | ⟨2, _⟩ => exact ⟨Nat.zero_le _, by simpa using (i 2).isLt⟩

/-- The buffer taken apart into its slots. -/
theorem comm_split (c : Dev nD) (f : Buf (Elt F) (commL c)) :
    ((commL c) ↦{fullShare} f : sProp 𝕄) ⊢ bigSep Finset.univ fun k : Fin 16 => slotAny c k.val k.isLt := by
  have e : ((commL c) ↦{fullShare} f : sProp 𝕄)
      = bigSep Finset.univ fun k : Fin 16 => (commL c) ↦[slotS k.val k.isLt]{fullShare} f := by
    rw [← pointsTo_biUnion (ℓ := commL c) Finset.univ (fun k : Fin 16 => slotS k.val k.isLt)
      (fun k _ k' _ h => slot_disjoint _ _ fun e => h (Fin.ext e)), slot_cover]
  rw [e]
  refine bigSep_mono fun k _ => ?_
  show ((commL c ↦[slotS k.val k.isLt]{fullShare} f) : sProp 𝕄) ⊢ slotAny c k.val k.isLt
  unfold slotAny slot
  iintro H
  iexists _, f
  isplitr; · ipureintro; rfl
  iexact H

/-- The slots put together again. -/
theorem comm_join (c : Dev nD) :
    (bigSep Finset.univ fun k : Fin 16 => slotAny (F := F) c k.val k.isLt)
      ⊢ (iprop(∃ f : Buf (Elt F) (commL c), (commL c) ↦{fullShare} f) : sProp 𝕄) := by
  have e : ∀ k : Fin 16, slotAny (F := F) c k.val k.isLt
      ⊢ (iprop(∃ f : Buf (Elt F) (commL c), (commL c) ↦[slotS k.val k.isLt]{fullShare} f) : sProp 𝕄) := by
    intro k
    unfold slotAny slot
    iintro ⟨%X, %f, -, H⟩
    iexists f; iexact H
  refine BIBase.Entails.trans (bigSep_mono fun k _ => e k) ?_
  show (bigSep Finset.univ fun k : Fin 16 => iprop(∃ f : Buf (Elt F) (commL c), commL c ↦[slotS k.val k.isLt]{fullShare} f) : sProp 𝕄) ⊢ _
  iintro H
  ihave H := (BI.bigSep_exists_pi Finset.univ fun (k : Fin 16) (f : Buf (Elt F) (commL c)) => ((commL c ↦[slotS k.val k.isLt]{fullShare} f) : sProp 𝕄)) $$ H
  icases H with ⟨%fs, H⟩
  ihave H := (pointsTo_biUnion_join (ℓ := commL c) Finset.univ (fun k : Fin 16 => slotS k.val k.isLt) fs (fs 0)
      (fun k _ k' _ h => slot_disjoint _ _ fun e => h (Fin.ext e))) $$ H
  icases H with ⟨%g, -, H⟩
  rw [slot_cover]
  iexists g; iexact H

end Cert.RingProof

end
-- ==== Proof.Contents.lean ====
/-
What the buffers hold, as functions of the twelve-step accumulators: the half block each device has in
hand at each step of the ring, what every transfer carries, and the result. The kernel's payloads are
read as these, and its loads of the accumulator and stores of the result are stated block by block.
-/
module

public import proofs.«01_k».proof.Proof.Slots

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

/-! ## Half blocks of an array of 1536 rows -/

theorem row_inb (b : Fin 8) : ∀ a, (![192 * b.val, 0] : Fin 2 → ℕ) a + S192x1536.size a ≤ S1536x1536.size a := by
  intro a
  have := b.isLt
  match a with
  | ⟨0, _⟩ => change 192 * b.val + 192 ≤ 1536; omega
  | ⟨1, _⟩ => change 0 + 1536 ≤ 1536; omega

/-- The rows of half block `b`. -/
abbrev rowRect (b : Fin 8) : Rect S1536x1536 := Rect.unit (s := S1536x1536) ![192 * b.val, 0] S192x1536.size (row_inb b)

/-- Half block `b` of an array. -/
def rowsOf {α : Type} (A : S1536x1536.Idx → α) (b : Fin 8) : S192x1536.Idx → α := fun x => A ((rowRect b).emb x)

/-! ## The ring's half blocks -/

/-- A half block of an accumulator, rounded to be sent. -/
def first (a : FVec F S192x1536 .f32) : Blk F := truncf .bf16 a bitsLt_bf16_f32

/-- A received half block, with the device's own added and rounded again. -/
def step (v : Blk F) (a : FVec F S192x1536 .f32) : Blk F := truncf .bf16 (addf (extf .f32 v bitsLt_bf16_f32) a) bitsLt_bf16_f32

/-- The device whose half block is in device `c`'s hand before its step `s`. -/
def home (b : Bool) : ℕ → Dev nD → Dev nD
  | 0, c => c
  | s + 1, c => home b s (src b c)

/-- What device `c` has in hand after `s + 1` accumulators were added in direction `b`. -/
def part (A : Dev nD → FVec F S1536x1536 .f32) (b : Bool) : ℕ → Dev nD → Blk F
  | 0, c => first (rowsOf (A c) (half b (src b c)))
  | s + 1, c => step (part A b s (src b c)) (rowsOf (A c) (half b (home b (s + 2) c)))

/-- The half blocks of the result: the fourth sum. -/
def total (A : Dev nD → FVec F S1536x1536 .f32) (b : Bool) (c : Dev nD) : Blk F := part A b 3 c

/-! ## The twelve transfers of a device

Transfer `j` goes to the right when `j < 6` and to the left otherwise; the first three of either kind add up, the last
three hand the sums on. -/

/-- The direction of transfer `j`. -/
def dir (j : Fin 12) : Bool := decide (j.val < 6)
/-- The slot transfer `j` reads. -/
def srcSlot (j : Fin 12) : ℕ := 8 * (j.val / 6) + (if j.val % 6 < 3 then 0 else j.val % 6 + 1)
/-- The slot transfer `j` writes. -/
def dstSlot (j : Fin 12) : ℕ := 8 * (j.val / 6) + (if j.val % 6 < 3 then j.val % 6 + 1 else j.val % 6 + 2)

theorem srcSlot_lt : ∀ j, srcSlot j < 16 := by decide
theorem dstSlot_lt : ∀ j, dstSlot j < 16 := by decide

/-- What transfer `j` of device `c` carries. -/
def sent (A : Dev nD → FVec F S1536x1536 .f32) (j : Fin 12) (c : Dev nD) : Blk F :=
  if j.val % 6 < 3 then part A (dir j) (j.val % 6) c else total A (dir j) (home (dir j) (j.val % 6 - 3) c)

/-- The result's half blocks. -/
def resBlk (A : Dev nD → FVec F S1536x1536 .f32) (i : Fin 8) : Blk F :=
  total A (decide (i.val % 2 = 0)) (⟨i.val / 2, by have := i.isLt; change i.val / 2 < 4; omega⟩ : Dev nD)

theorem resBlk_half (A : Dev nD → FVec F S1536x1536 .f32) (b : Bool) (c : Dev nD) : resBlk A (half b c) = total A b c := by
  unfold resBlk
  have h1 : decide ((half b c).val % 2 = 0) = b := by revert b c; decide
  have h2 : (⟨(half b c).val / 2, by have := (half b c).isLt; change (half b c).val / 2 < 4; omega⟩ : Dev nD) = c := by revert b c; decide
  rw [h1, h2]

/-! ## The kernel's payloads -/

section Payloads
variable (v : Blk F) (a : FVec F S192x1536 .f32)

theorem pay4_eq : k0_pay4 a = up (first a) := rfl
theorem pay6_eq : k0_pay6 (k0_pay5 a) = up (first a) := rfl
theorem pay9_eq : k0_pay9 (k0_pay7 (up v) a) = up (step v a) := by
  change up (truncf .bf16 (addf (extf .f32 (dn (up v)) bitsLt_bf16_f32) a) bitsLt_bf16_f32) = _; rw [dn_up]; rfl
theorem pay10_eq : k0_pay10 (k0_pay8 (up v)) a = up (step v a) := by
  change up (truncf .bf16 (addf (extf .f32 (dn (up v)) bitsLt_bf16_f32) a) bitsLt_bf16_f32) = _; rw [dn_up]; rfl
theorem pay11_eq : k0_pay11 (up v) a = up (step v a) := by
  change up (truncf .bf16 (addf (extf .f32 (dn (up v)) bitsLt_bf16_f32) a) bitsLt_bf16_f32) = _; rw [dn_up]; rfl
theorem pay12_eq : k0_pay12 (up v) a = up (step v a) := by
  change up (truncf .bf16 (addf (extf .f32 (dn (up v)) bitsLt_bf16_f32) a) bitsLt_bf16_f32) = _; rw [dn_up]; rfl
theorem pay15_eq : k0_pay15 (up v) a = step v a := by
  change truncf .bf16 (addf (extf .f32 (dn (up v)) bitsLt_bf16_f32) a) bitsLt_bf16_f32 = _; rw [dn_up]; rfl
theorem pay16_eq : k0_pay16 (up v) a = step v a := by
  change truncf .bf16 (addf (extf .f32 (dn (up v)) bitsLt_bf16_f32) a) bitsLt_bf16_f32 = _; rw [dn_up]; rfl
theorem pay18_eq : k0_pay18 (k0_pay17 (up v) a) = up (step v a) := by
  change up (truncf .bf16 (addf (extf .f32 (dn (up v)) bitsLt_bf16_f32) a) bitsLt_bf16_f32) = _; rw [dn_up]; rfl
theorem pay19_eq : k0_pay19 (k0_pay14 (up v) a) = up (step v a) := by
  change up (truncf .bf16 (addf (extf .f32 (dn (up v)) bitsLt_bf16_f32) a) bitsLt_bf16_f32) = _; rw [dn_up]; rfl
theorem pay20_eq : k0_pay20 (up v) = v := dn_up v
theorem pay21_eq : k0_pay21 (up v) = v := dn_up v
theorem pay22_eq : k0_pay22 (up v) = v := dn_up v
theorem pay23_eq : k0_pay23 (up v) = v := dn_up v
theorem pay24_eq : k0_pay24 (up v) = v := dn_up v
theorem pay25_eq : k0_pay25 (up v) = v := dn_up v

end Payloads

/-! ## Loads of the accumulator, stores of the result -/

/-- The accumulator. -/
abbrev accM : Memref sig .tc .vmem S1536x1536 .f32 := Memref.whole cc0_scratch1
/-- Where device `c`'s accumulator lies. -/
abbrev accL (c : Dev nD) : Loc nD τ sig := (c : Thread nD τ).loc cc0_scratch1

/-- The kernel's load of a half block of the accumulator. -/
theorem wp_loadAcc (c : Dev nD) {α : Type} {Q : α → sProp 𝕄} (A : FVec F S1536x1536 .f32) (b : Fin 8) {off : Fin 2 → ℕ}
    (hoff : off = ![192 * b.val, 0]) {inb : ∀ a, off a + S192x1536.size a ≤ S1536x1536.size a}
    {hl : accM.view.LoadsAt (Rect.unit (s := S1536x1536) off S192x1536.size inb).toLoadRect}
    {K : (S192x1536.Idx → Elt F .f32) → Prog (TpuEff nD τ sig (Elt F) Λ₀ .tc) α} :
    (accL c ↦{fullShare} (A : Buf (Elt F) (accL c)) : sProp 𝕄)
      ⊢ iprop(((accL c ↦{fullShare} (A : Buf (Elt F) (accL c))) -∗ wp frame (wpE (defs₀ (F := F)) 𝒱₀ (c : Thread nD τ) none) Set.univ (K (rowsOf A b)) Q)
        -∗ wp frame (wpE (defs₀ (F := F)) 𝒱₀ (c : Thread nD τ) none) Set.univ
            (.op (.load accM (Rect.unit (s := S1536x1536) off S192x1536.size inb).toLoadRect hl) K) Q) := by
  subst hoff
  have e : rowsOf A b = (accM.access (rowRect b)).read (Elt F) A := rfl
  rw [e]
  have hS : (accM.access (rowRect b)).set ⊆ (Finset.univ : Finset S1536x1536.Idx) := Finset.subset_univ _
  iintro H HK
  iapply (wp_load_rect 𝒱₀ (c : Thread nD τ) none Set.univ (m := accM) (r := rowRect b) (S := Finset.univ) (f := A) hS) $$ H
  iintro H
  iapply HK
  iexact H

/-- Device `c` holds the result's buffer, the half blocks of `S` written. -/
def outPts (c : Dev nD) (m : Memref sig .tc .vmem S1536x1536 .bf16) (O : Fin 8 → Blk F) (S : Finset (Fin 8)) : sProp 𝕄 :=
  iprop(∃ f : Buf (Elt F) (m.view.loc (c : Thread nD τ)), ⌜∀ b ∈ S, rowsOf (m.view.read (Elt F) f) b = O b⌝
    ∗ (m.view.loc (c : Thread nD τ) ↦[m.view.set]{fullShare} f))

/-- The kernel's load of a half block of the result's buffer, whose value it does not use. -/
theorem wp_loadOut (c : Dev nD) {α : Type} {Q : α → sProp 𝕄} {m : Memref sig .tc .vmem S1536x1536 .bf16} {O : Fin 8 → Blk F} {S : Finset (Fin 8)}
    {r : Rect S1536x1536} {hl : m.view.LoadsAt r.toLoadRect}
    {K : (r.shape.Idx → Elt F .bf16) → Prog (TpuEff nD τ sig (Elt F) Λ₀ .tc) α} :
    outPts c m O S
      ⊢ iprop((∀ X, outPts c m O S -∗ wp frame (wpE (defs₀ (F := F)) 𝒱₀ (c : Thread nD τ) none) Set.univ (K X) Q)
        -∗ wp frame (wpE (defs₀ (F := F)) 𝒱₀ (c : Thread nD τ) none) Set.univ (.op (.load m r.toLoadRect hl) K) Q) := by
  unfold outPts
  iintro ⟨%f, %hf, H⟩ HK
  have hS : m.view.setOn r.toLoadRect.set ⊆ m.view.set := View.setOn_subset_set _ _
  iapply (wp_load 𝒱₀ (c : Thread nD τ) none Set.univ (m := m) (S := m.view.set) (f := f) hS) $$ H
  iintro H
  iapply HK
  iexists f
  isplitr; · ipureintro; exact hf
  iexact H

theorem rowRect_disjoint {b b' : Fin 8} (h : b ≠ b') (x : S192x1536.Idx) (x' : S192x1536.Idx) : (rowRect b).emb x ≠ (rowRect b').emb x' := by
  intro e
  have h0 := congrArg (fun i : S1536x1536.Idx => (i 0).val) e
  have h1 := (x 0).isLt
  have h2 := (x' 0).isLt
  change 192 * b.val + 1 * (x 0).val = 192 * b'.val + 1 * (x' 0).val at h0
  change (x 0).val < 192 at h1
  change (x' 0).val < 192 at h2
  apply h
  apply Fin.ext
  omega

/-- The kernel's store of a half block of the result. -/
theorem wp_storeOut (c : Dev nD) {α : Type} {Q : α → sProp 𝕄} {m : Memref sig .tc .vmem S1536x1536 .bf16} {O : Fin 8 → Blk F} {S : Finset (Fin 8)}
    (b : Fin 8) {w : Blk F} (hw : w = O b) {off : Fin 2 → ℕ} (hoff : off = ![192 * b.val, 0])
    {inb : ∀ a, off a + S192x1536.size a ≤ S1536x1536.size a}
    {hx : (m.access (Rect.unit (s := S1536x1536) off S192x1536.size inb)).Stores Finset.univ}
    {hm : Finset.univ = (Finset.univ : Finset (Rect.unit (s := S1536x1536) off S192x1536.size inb).shape.Idx)
      ∨ ∀ a, (Rect.unit (s := S1536x1536) off S192x1536.size inb).stride a = 1}
    {K : PUnit → Prog (TpuEff nD τ sig (Elt F) Λ₀ .tc) α} :
    outPts c m O S
      ⊢ iprop((outPts c m O (insert b S) -∗ wp frame (wpE (defs₀ (F := F)) 𝒱₀ (c : Thread nD τ) none) Set.univ (K ⟨⟩) Q)
        -∗ wp frame (wpE (defs₀ (F := F)) 𝒱₀ (c : Thread nD τ) none) Set.univ
            (.op (.store m (Rect.unit (s := S1536x1536) off S192x1536.size inb) w Finset.univ hx hm) K) Q) := by
  subst hoff
  subst hw
  unfold outPts
  iintro ⟨%f, %hf, H⟩ HK
  have hS : (m.access (rowRect b)).setOn Finset.univ ⊆ m.view.set := View.set_slice_subset (v := m.view) (rowRect b)
  iapply (wp_store 𝒱₀ (c : Thread nD τ) none Set.univ (m := m) (r := rowRect b) (Mk := Finset.univ) (S := m.view.set) (f := f) hS) $$ H
  iintro H
  iapply HK
  iexists _
  isplitr
  rotate_left
  · iexact H
  · ipureintro
    intro b' hb'
    funext x
    by_cases e : b' = b
    · subst e
      exact View.read_slice_write_emb (v := m.view) (rowRect b') f (O b') (Finset.mem_univ x)
    · have hn : (rowRect b').emb x ∉ Finset.univ.map (rowRect b).emb := by
        intro hm
        obtain ⟨y, -, hy⟩ := Finset.mem_map.mp hm
        exact rowRect_disjoint e x y hy.symm
      have hb : b' ∈ S := Finset.mem_of_mem_insert_of_ne hb' e
      exact (View.read_slice_write_of_not_mem (v := m.view) (rowRect b) f (O b) Finset.univ hn).trans (congrFun (hf b' hb) x)

/-- A half block of the result is loaded, its value unused, and then stored. -/
theorem wp_putOut (c : Dev nD) {α : Type} {Q : α → sProp 𝕄} {m : Memref sig .tc .vmem S1536x1536 .bf16} {O : Fin 8 → Blk F} {S : Finset (Fin 8)}
    (b : Fin 8) {w : Blk F} (hw : w = O b) {off : Fin 2 → ℕ} (hoff : off = ![192 * b.val, 0])
    {inb : ∀ a, off a + S192x1536.size a ≤ S1536x1536.size a}
    {hl : m.view.LoadsAt (Rect.unit (s := S1536x1536) off S192x1536.size inb).toLoadRect}
    {hx : (m.access (Rect.unit (s := S1536x1536) off S192x1536.size inb)).Stores Finset.univ}
    {hm : Finset.univ = (Finset.univ : Finset (Rect.unit (s := S1536x1536) off S192x1536.size inb).shape.Idx)
      ∨ ∀ a, (Rect.unit (s := S1536x1536) off S192x1536.size inb).stride a = 1}
    {K : PUnit → Prog (TpuEff nD τ sig (Elt F) Λ₀ .tc) α} :
    outPts c m O S
      ⊢ iprop((outPts c m O (insert b S) -∗ wp frame (wpE (defs₀ (F := F)) 𝒱₀ (c : Thread nD τ) none) Set.univ (K ⟨⟩) Q)
        -∗ wp frame (wpE (defs₀ (F := F)) 𝒱₀ (c : Thread nD τ) none) Set.univ
            (.op (.load m (Rect.unit (s := S1536x1536) off S192x1536.size inb).toLoadRect hl) fun _ =>
              .op (.store m (Rect.unit (s := S1536x1536) off S192x1536.size inb) w Finset.univ hx hm) K) Q) := by
  iintro H HK
  iapply (wp_loadOut c) $$ H
  iintro %_ H
  iapply (wp_storeOut c b hw hoff) $$ H
  iexact HK

/-- The whole result, put together from its half blocks. -/
def glue (O : Fin 8 → Blk F) : FVec F S1536x1536 .bf16 := fun i =>
  O ⟨(i 0).val / 192, by have h : (i 0).val < 1536 := (i 0).isLt; omega⟩
    fun a => match a with
      | ⟨0, _⟩ => ⟨(i 0).val % 192, Nat.mod_lt _ (by decide)⟩
      | ⟨1, _⟩ => ⟨(i 1).val, (i 1).isLt⟩

theorem glue_of (O : Fin 8 → Blk F) (X : FVec F S1536x1536 .bf16) (h : ∀ b, rowsOf X b = O b) : X = glue O := by
  funext i
  unfold glue
  rw [← h]
  unfold rowsOf
  congr 1
  funext a
  match a with
  | ⟨0, _⟩ => apply Fin.ext; change (i 0).val = 192 * ((i 0).val / 192) + 1 * ((i 0).val % 192); omega
  | ⟨1, _⟩ => apply Fin.ext; change (i 1).val = 0 + 1 * (i 1).val; omega

/-- With all half blocks written the buffer holds the whole result. -/
theorem outPts_all (c : Dev nD) (m : Memref sig .tc .vmem S1536x1536 .bf16) (O : Fin 8 → Blk F) (S : Finset (Fin 8)) (hS : ∀ b, b ∈ S) :
    outPts c m O S ⊢ (owns (c : Thread nD τ) m fullShare (glue O) : sProp 𝕄) := by
  unfold outPts owns
  iintro ⟨%f, %hf, H⟩
  iexists f
  isplitr; · ipureintro; exact glue_of O _ fun b => hf b (hS b)
  iexact H

/-- Before the first store nothing is known of the buffer. -/
theorem outPts_none (c : Dev nD) (m : Memref sig .tc .vmem S1536x1536 .bf16) (O : Fin 8 → Blk F) (X : FVec F S1536x1536 .bf16) :
    (owns (c : Thread nD τ) m fullShare X : sProp 𝕄) ⊢ outPts c m O ∅ := by
  unfold outPts owns
  iintro ⟨%f, -, H⟩
  iexists f
  isplitr; · ipureintro; intro b hb; exact absurd hb (Finset.notMem_empty _)
  iexact H

end Cert.RingProof

end
-- ==== Proof.Schedule.lean ====
/-
The ring's semaphores. Each device has a barrier cell, twelve send cells and twelve receive cells. Every
cell has one round. The barrier's two duties are one unit from either neighbour, which hands over the slots
the device will write on that neighbour; a send cell's duty returns the slot read, a receive cell's hands
over the slot written, with what landed in it. What a device owes at each moment, and the order of the waits.
-/
module

public import proofs.«01_k».proof.Proof.Contents

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

/-- The pipeline's ghost state within the launch's. -/
abbrev EP : Emb (UR sig nD τ) (MT nD τ sig Unit (Elt F) ℕ Alg ℕ) := embL
/-- The ring's ghost state within the launch's. -/
abbrev ER : Emb RingAlg (MT nD τ sig Unit (Elt F) ℕ Alg ℕ) := embR

/-! ## The cells -/

/-- A device's cells: the barrier, the send cells (`false`), the receive cells (`true`). -/
abbrev Site : Type := Option (Bool × Fin 12)

/-- The send semaphore of transfer `j`. -/
def sSem (j : Fin 12) : DmaSem sig := ⟨8 + j.val, by have := j.isLt; change 8 + j.val < 32; omega⟩
/-- The receive semaphore of transfer `j`. -/
def rSem (j : Fin 12) : DmaSem sig := ⟨20 + j.val, by have := j.isLt; change 20 + j.val < 32; omega⟩

/-- The semaphore of a cell. -/
def semOf : Site → SemLoc sig
  | none => .reg barrier0
  | some (false, j) => .dma (sSem j)
  | some (true, j) => .dma (rSem j)

/-- The cell of a semaphore. -/
def siteOf : SemLoc sig → Option Site
  | .reg _ => some none
  | .dma q => if h : q.val < 8 then none else if h' : q.val < 20 then some (some (false, ⟨q.val - 8, by omega⟩))
      else some (some (true, ⟨q.val - 20, by have : q.val < 32 := q.isLt; omega⟩))

theorem siteOf_semOf : ∀ x : Site, siteOf (semOf x) = some x := by decide
theorem siteOf_stage (q : DmaSem sig) (h : q.val < 8) : siteOf (.dma q) = none := dif_pos h

/-- Cell `x` of device `c`. -/
abbrev cell (c : Dev nD) (x : Site) : GSem nD τ sig := ((c : Thread nD τ), semOf x)
/-- The send cell of transfer `j` of device `c`. -/
abbrev sCell (c : Dev nD) (j : Fin 12) : GSem nD τ sig := cell c (some (false, j))
/-- The receive cell of transfer `j` to device `c`. -/
abbrev rCell (c : Dev nD) (j : Fin 12) : GSem nD τ sig := cell c (some (true, j))

/-- What one transfer credits. -/
def N : ℕ := (slotM 0 (by decide)).view.dmaCredit
theorem N_pos : 0 < N := View.dmaCredit_pos _ (by decide)

/-! ## The schedule -/

/-- The slots of device `c` that the traffic of direction `b` lands in, with any contents. -/
def landing (c : Dev nD) : Bool → sProp 𝕄
  | true => iprop(slotAny (F := F) c 1 (by decide) ∗ slotAny (F := F) c 2 (by decide) ∗ slotAny (F := F) c 3 (by decide)
      ∗ slotAny (F := F) c 5 (by decide) ∗ slotAny (F := F) c 6 (by decide) ∗ slotAny (F := F) c 7 (by decide))
  | false => iprop(slotAny (F := F) c 9 (by decide) ∗ slotAny (F := F) c 10 (by decide) ∗ slotAny (F := F) c 11 (by decide)
      ∗ slotAny (F := F) c 13 (by decide) ∗ slotAny (F := F) c 14 (by decide) ∗ slotAny (F := F) c 15 (by decide))

instance slot_storable (c : Dev nD) (k : ℕ) (hk : k < 16) (X : FVec F S1x192x1536 .bf16) : BI.Storable (upEmb : UEmb _ 𝕄) (slot c k hk X) := by
  unfold slot; infer_instance
instance slotAny_storable (c : Dev nD) (k : ℕ) (hk : k < 16) : BI.Storable (upEmb : UEmb _ 𝕄) (slotAny (F := F) c k hk) := by
  unfold slotAny; infer_instance
instance landing_storable (c : Dev nD) (b : Bool) : BI.Storable (upEmb : UEmb _ 𝕄) (landing (F := F) c b) := by
  cases b <;> (unfold landing; infer_instance)

variable (A : Dev nD → FVec F S1536x1536 .f32)

/-- What cell `x` of device `c` hands over at its duty `d`. -/
def pay (c : Dev nD) : Option Site → Bool → sProp 𝕄
  | none, _ => iprop(emp)
  | some none, d => landing (dst d c) d
  | some (some (false, j)), _ => slot c (srcSlot j) (srcSlot_lt j) (up (sent A j c))
  | some (some (true, j)), _ => slot c (dstSlot j) (dstSlot_lt j) (up (sent A j (src (dir j) c)))

instance pay_storable (c : Dev nD) (x : Option Site) (d : Bool) : BI.Storable (upEmb : UEmb _ 𝕄) (pay A c x d) := by
  match x with
  | none => unfold pay; infer_instance
  | some none => unfold pay; infer_instance
  | some (some (false, j)) => unfold pay; infer_instance
  | some (some (true, j)) => unfold pay; infer_instance

theorem pay_bar (c : Dev nD) (d : Bool) : pay A c (some none) d = landing (F := F) (dst d c) d := rfl
theorem pay_send (c : Dev nD) (j : Fin 12) (d : Bool) : pay A c (some (some (false, j))) d = slot c (srcSlot j) (srcSlot_lt j) (up (sent A j c)) := rfl
theorem pay_recv (c : Dev nD) (j : Fin 12) (d : Bool) :
    pay A c (some (some (true, j))) d = slot c (dstSlot j) (dstSlot_lt j) (up (sent A j (src (dir j) c))) := rfl

/-- The duties of a cell's round. -/
def dutiesOf : Option Site → Finset Bool
  | none => ∅
  | some none => Finset.univ
  | some (some _) => {false}

/-- The schedule: one round per cell. -/
def ringRd : Rounds.Schedule (GSem nD τ sig) Bool 𝕄 where
  duties g r := if r = 0 ∧ g.1.2 = .tc then dutiesOf (siteOf g.2) else ∅
  unitless _ := False
  amount g _ _ := if siteOf g.2 = some none then 1 else N
  payload g _ d := pay A g.1.1 (siteOf g.2) d
  amount_pos g _ _ _ := by
    split
    · exact Nat.one_pos
    · exact N_pos

instance ringRd_payload_storable (g : GSem nD τ sig) (r : ℕ) (d : Bool) : BI.Storable (upEmb : UEmb _ 𝕄) ((ringRd A).payload g r d) :=
  pay_storable A g.1.1 (siteOf g.2) d

theorem duties_at (c : Dev nD) (x : Site) : (ringRd A).duties (cell c x) 0 = dutiesOf (some x) := by
  dsimp only [ringRd]; rw [if_pos ⟨rfl, rfl⟩, siteOf_semOf]
theorem duties_after (g : GSem nD τ sig) : ∀ r, 0 + 1 ≤ r → (ringRd A).duties g r = ∅ :=
  fun r hr => by dsimp only [ringRd]; rw [if_neg fun h => by omega]
theorem amount_bar (c : Dev nD) (d : Bool) : (ringRd A).amount (cell c none) 0 d = 1 := by
  dsimp only [ringRd]; rw [siteOf_semOf, if_pos rfl]
theorem amount_xfer (c : Dev nD) (x : Bool × Fin 12) (d : Bool) : (ringRd A).amount (cell c (some x)) 0 d = N := by
  dsimp only [ringRd]; rw [siteOf_semOf, if_neg (by simp)]
theorem payload_at (c : Dev nD) (x : Site) (d : Bool) : (ringRd A).payload (cell c x) 0 d = pay A c (some x) d := by
  dsimp only [ringRd]; rw [siteOf_semOf]
theorem payload_send (c : Dev nD) (j : Fin 12) (d : Bool) :
    (ringRd A).payload ((c : Thread nD τ), .dma (sSem j)) 0 d = slot c (srcSlot j) (srcSlot_lt j) (up (sent A j c)) :=
  (payload_at A c (some (false, j)) d).trans (pay_send A c j d)
theorem payload_recv (c : Dev nD) (j : Fin 12) (d : Bool) :
    (ringRd A).payload ((c : Thread nD τ), .dma (rSem j)) 0 d = slot c (dstSlot j) (dstSlot_lt j) (up (sent A j (src (dir j) c))) :=
  (payload_at A c (some (true, j)) d).trans (pay_recv A c j d)
theorem mem_bar (c : Dev nD) (d : Bool) : d ∈ (ringRd A).duties (cell c none) 0 := by
  rw [duties_at]; exact Finset.mem_univ d
theorem mem_xfer (c : Dev nD) (x : Bool × Fin 12) : false ∈ (ringRd A).duties (cell c (some x)) 0 := by
  rw [duties_at]; exact Finset.mem_singleton_self _
theorem expect_bar (c : Dev nD) : (ringRd A).expect (cell c none) 0 = 2 := by
  unfold Schedule.expect Schedule.amountOf
  rw [Finset.sum_congr rfl fun d _ => amount_bar A c d, duties_at]; rfl
theorem expect_xfer (c : Dev nD) (x : Bool × Fin 12) : (ringRd A).expect (cell c (some x)) 0 = N := by
  unfold Schedule.expect Schedule.amountOf
  rw [duties_at]
  exact (Finset.sum_singleton _ _).trans (amount_xfer A c x false)
theorem rest_bar (c : Dev nD) : bigSep ((ringRd A).duties (cell c none) 0 \ ∅) (fun d => (ringRd A).payload (cell c none) 0 d)
    = iprop(landing (F := F) (dst true c) true ∗ landing (F := F) (dst false c) false) := by
  rw [Finset.sdiff_empty, duties_at]
  have e : dutiesOf (some none) = (Finset.univ : Finset Bool) := rfl
  rw [e, bigSep_univ_eq_bigSepL [true, false] (by decide) (by decide), bigSepL_cons_cons, bigSepL_singleton, payload_at, payload_at]
  rfl
theorem rest_xfer (c : Dev nD) (x : Bool × Fin 12) : bigSep ((ringRd A).duties (cell c (some x)) 0 \ ∅) (fun d => (ringRd A).payload (cell c (some x)) 0 d)
    = pay A c (some (some x)) false := by
  rw [Finset.sdiff_empty, duties_at]
  have e : dutiesOf (some (some x)) = {false} := rfl
  rw [e, bigSep_singleton, payload_at]

/-! ## What a device owes, and the levels -/

/-- The neighbour transfer `j` of device `c` goes to. -/
abbrev peer (j : Fin 12) (c : Dev nD) : Dev nD := dst (dir j) c

/-- Owing the credits of the transfers of a list, the first to be sent outermost. -/
def owed (c : Dev nD) : List (Fin 12) → CellTallies nD τ sig Unit
  | [] => 0
  | j :: l => owed c l + tallyAt (rCell (peer j c) j) () N

/-- The transfers in the order of their start. -/
def order : List (Fin 12) := [0, 6, 1, 7, 2, 8, 3, 9, 4, 10, 5, 11]

/-- What a device owes when it enters the ring: all its transfers, a unit to its right, a unit to its left. -/
def owedStart (c : Dev nD) : CellTallies nD τ sig Unit :=
  owed c order + tallyAt (cell (dst true c) none) () 1 + tallyAt (cell (dst false c) none) () 1

/-- The cells a wait is known of. -/
def L (g : GSem nD τ sig) : Finset Unit := if g.1.2 = .tc then {()} else ∅

/-- A cell's level: the barrier before the receive cells, these by their step, all else below. -/
def lv (g : GSem nD τ sig) (_ : Unit) : ℕ :=
  match siteOf g.2 with
  | some none => 1
  | some (some (true, j)) => 2 + j.val % 6
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (cell c none) () = 1 := by unfold lv; rw [siteOf_semOf]
theorem lv_recv (c : Dev nD) (j : Fin 12) : lv (rCell c j) () = 2 + j.val % 6 := by unfold lv; rw [siteOf_semOf]
theorem lv_send (c : Dev nD) (j : Fin 12) : lv (sCell c j) () = 0 := by unfold lv; rw [siteOf_semOf]
theorem lv_stage (c : Dev nD) (q : DmaSem sig) (h : q.val < 8) : lv ((c : Thread nD τ), .dma q) () = 0 := by unfold lv; rw [siteOf_stage q h]

theorem owed_pos {c : Dev nD} {l : List (Fin 12)} {g : GSem nD τ sig} {u : Unit} (h : 0 < owed c l g u) : ∃ j ∈ l, g = rCell (peer j c) j := by
  induction l with
  | nil => exact absurd h (Nat.lt_irrefl 0)
  | cons j l ih =>
    unfold owed at h
    rw [Pi.add_apply, Finsupp.add_apply, tallyAt_apply] at h
    by_cases e : g = rCell (peer j c) j ∧ u = ()
    · exact ⟨j, List.mem_cons_self, e.1⟩
    · rw [if_neg e, Nat.add_zero] at h
      obtain ⟨i, hi, hg⟩ := ih h
      exact ⟨i, List.mem_cons_of_mem _ hi, hg⟩

theorem owedStart_pos {c : Dev nD} {g : GSem nD τ sig} {u : Unit} (h : 0 < owedStart c g u) :
    (∃ j, g = rCell (peer j c) j) ∨ ∃ d, g = cell d none := by
  unfold owedStart at h
  rw [Pi.add_apply, Finsupp.add_apply, Pi.add_apply, Finsupp.add_apply, tallyAt_apply, tallyAt_apply] at h
  by_cases e : g = cell (dst true c) none ∧ u = ()
  · exact .inr ⟨_, e.1⟩
  · by_cases e' : g = cell (dst false c) none ∧ u = ()
    · exact .inr ⟨_, e'.1⟩
    · rw [if_neg e, if_neg e'] at h
      obtain ⟨j, -, hg⟩ := owed_pos (show 0 < owed c order g u from h)
      exact .inl ⟨j, hg⟩

/-- A wait on a cell below every transfer still owed. -/
theorem mayWait_ring (c : Dev nD) (x : Site) (l : List (Fin 12)) (h : ∀ j ∈ l, lv (cell c x) () < 2 + j.val % 6) :
    (levAts L lv : sProp 𝕄) ⊢ MayWait (c : Thread nD τ) (semOf x) () (owed c l) :=
  MayOwe.of_cut (L := L) (lev := lv) (lv (cell c x) ()) (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp])
    (fun g u hg => by obtain ⟨j, hj, rfl⟩ := owed_pos hg; rw [lv_recv]; exact h j hj)

/-- A wait on a staging cell, whatever of the start is still owed. -/
theorem mayWait_stage (c : Dev nD) (q : DmaSem sig) (hq : q.val < 8) (O : CellTallies nD τ sig Unit) (hO : O = owedStart c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases owedStart_pos hg with ⟨j, rfl⟩ | ⟨d, rfl⟩ <;> exact Finset.mem_singleton_self _)
      (fun p hp => by rw [Finset.mem_singleton.mp hp, lv_stage c q hq])
      (fun g u hg => by
        rcases owedStart_pos hg with ⟨j, rfl⟩ | ⟨d, rfl⟩
        · rw [lv_recv]; omega
        · rw [lv_bar]; exact Nat.one_pos)
  · rw [MayWait_zero]; iintro -; iempintro

end Cert.RingProof

end
-- ==== Proof.Links.lean ====
/-
The steps of the ring, one rule each: the handshake's signal and wait, the start of a transfer, and the
two waits that end it. A transfer goes from "not started" through "in flight" to "ended".
-/
module

public import proofs.«01_k».proof.Proof.Schedule

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

variable (A : Dev nD → FVec F S1536x1536 .f32) (K : Dev nD × Site → ℕ)

/-- What every device knows: each cell's invariant, that its round has come, and the levels. -/
def known : sProp 𝕄 :=
  iprop((bigSep Finset.univ fun x : Dev nD × Site => cellInv ER (ringRd A) (K x) (cell x.1 x.2))
    ∗ (bigSep Finset.univ fun x : Dev nD × Site => reached ER (cell x.1 x.2) 0) ∗ levAts L lv)

instance known_persistent : BI.Persistent (known A K) := by unfold known; infer_instance

theorem known_inv (c : Dev nD) (x : Site) : known A K ⊢ cellInv ER (ringRd A) (K (c, x)) (cell c x) := by
  unfold known
  iintro ⟨H, -, -⟩
  have h : (bigSep Finset.univ fun x : Dev nD × Site => (cellInv ER (ringRd A) (K x) (cell x.1 x.2) : sProp 𝕄))
      ⊢ cellInv ER (ringRd A) (K (c, x)) (cell c x) := bigSep_elim (Finset.mem_univ (c, x))
  iapply h; iexact H

theorem known_reached (c : Dev nD) (x : Site) : known A K ⊢ reached ER (cell c x) 0 := by
  unfold known
  iintro ⟨-, H, -⟩
  have h : (bigSep Finset.univ fun x : Dev nD × Site => (reached ER (cell x.1 x.2) 0 : sProp 𝕄)) ⊢ reached ER (cell c x) 0 :=
    bigSep_elim (Finset.mem_univ (c, x))
  iapply h; iexact H

theorem known_levels : known A K ⊢ levAts L lv := by
  unfold known
  iintro ⟨-, -, H⟩
  iexact H

/-- Device `c` owes `O`, whatever it has waited for. -/
def owing (c : Dev nD) (O : CellTallies nD τ sig Unit) : sProp 𝕄 := iprop(∃ W, owes (c : Thread nD τ) O W)

/-! ## The handshake -/

/-- The signal to a neighbour pays a unit there and hands over the landing slots of the traffic that comes from it. -/
theorem wp_signalBar (c : Dev nD) (b : Bool) {n : Dev nD} (hn : n = dst b c) {s : Sem sig} (hs : s = barrier0) {k' : ℕ} (hk : k' = 1) (O : CellTallies nD τ sig Unit)
    {α : Type} {Q : α → sProp 𝕄} {k : PUnit → Prog (TpuEff nD τ sig (Elt F) Λ₀ .tc) α} :
    iprop(known A K ∗ dutyTok ER (cell (dst b c) none) 0 (!b) ∗ landing (F := F) c (!b)
        ∗ owing c (O + tallyAt (cell (dst b c) none) () 1))
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) s k') k) Q) := by
  subst hn; subst hs; subst hk
  unfold owing
  iintro ⟨#HK, Ht, Hl, ⟨%W, HO⟩⟩ Hk
  iapply (Rounds.wp_signal 𝒱₀ ER (ringRd A) (c : Thread nD τ) none (dst := (dst b c : Thread nD τ)) (sem := barrier0) (r := 0) (κ := K (dst b c, none))
      (d := !b) (mem_bar A (dst b c) (!b)) (amount_bar A (dst b c) (!b)) () O rfl)
    $$ [HO Ht Hl]
  · isplitr; · iapply (known_inv A K (dst b c) none); iexact HK
    isplitl [HO]; · iexact HO
    isplitl [Ht]; · iexact Ht
    isplitl [Hl]
    · iapply (Entails.of_eq (show landing (F := F) c (!b) = (ringRd A).payload ((dst b c : Thread nD τ), SemLoc.reg barrier0) 0 (!b) from
        (((payload_at A (dst b c) none (!b)).trans (pay_bar A (dst b c) (!b))).trans (by rw [dst_not, src_dst])).symm))
      iexact Hl
    · iapply (known_reached A K (dst b c) none); iexact HK
  iintro HO
  iapply Hk
  iexists W; iexact HO

/-- The wait on the barrier: both neighbours' landing slots come, and the barrier is back at zero. -/
theorem wp_waitBar (c : Dev nD) {s : Sem sig} (hs : s = barrier0) {k' : ℕ} (hk : k' = 2) (l : List (Fin 12))
    {α : Type} {Q : α → sProp 𝕄} {k : PUnit → Prog (TpuEff nD τ sig (Elt F) Λ₀ .tc) α} :
    iprop(known A K ∗ atPos ER (cell c none) 0 ∅ 0 ∗ cred (tallyAt (cell c none) () 2) ∗ owing c (owed c l))
      ⊢ iprop((iprop(owing c (owed c l) ∗ semVal (cell c none) 0 ∗ landing (F := F) (dst true c) true ∗ landing (F := F) (dst false c) false)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s k') k) Q) := by
  subst hs; subst hk
  unfold owing
  iintro ⟨#HK, Hat, Hc, ⟨%W, HO⟩⟩ Hk
  iapply (Rounds.wp_wait_rest_token 𝒱₀ ER (ringRd A) (c : Thread nD τ) none (κ := K (c, none)) (sm := semOf none)
      (wpE_semWait_eq 𝒱₀ (c : Thread nD τ) none Set.univ) (Set.mem_univ _) () (O := owed c l) (W := W) (R := 0) (m := 0) (T := ∅)
      (by rw [Nat.zero_add]; exact (expect_bar A c).symm)) $$ [Hat Hc HO]
  · isplitr; · iapply (known_inv A K c none); iexact HK
    isplitl [Hc]; · iexact Hc
    isplitl [HO]; · iexact HO
    isplitr
    · iapply (mayWait_ring c none l fun j _ => by rw [lv_bar]; omega)
      iapply (known_levels A K); iexact HK
    iexact Hat
  iintro ⟨HO, Hat, -, Hp⟩
  ihave Hp := (Entails.of_eq (rest_bar A c)) $$ Hp
  icases Hp with ⟨H1, H2⟩
  imod (Rounds.cell_close ER (ringRd A) (Set.mem_univ (K (c, none))) (fun h => h) (R := 0 + 1) (duties_after A (cell c none))) $$ [Hat] with Hz
  · isplitr; · iapply (known_inv A K c none); iexact HK
    iexact Hat
  iapply Hk
  isplitl [HO]; · iexists _; iexact HO
  isplitl [Hz]; · iexact Hz
  isplitl [H1] <;> iassumption

/-! ## A transfer -/

/-- Transfer `j` of device `c` not started: its cells' positions, the tokens of its two duties, the credit for what comes. -/
def idle (c : Dev nD) (j : Fin 12) : sProp 𝕄 :=
  iprop(atPos ER (sCell c j) 0 ∅ 0 ∗ atPos ER (rCell c j) 0 ∅ 0 ∗ dutyTok ER (sCell c j) 0 false ∗ dutyTok ER (rCell (peer j c) j) 0 false
    ∗ cred (tallyAt (rCell c j) () N))

/-- Transfer `j` in flight. -/
def flying (c : Dev nD) (j : Fin 12) : sProp 𝕄 :=
  iprop(atPos ER (sCell c j) 0 ∅ 0 ∗ atPos ER (rCell c j) 0 ∅ 0 ∗ cred (tallyAt (sCell c j) () N) ∗ cred (tallyAt (rCell c j) () N))

/-- Transfer `j` with its source read. -/
def leaving (c : Dev nD) (j : Fin 12) : sProp 𝕄 :=
  iprop(semVal (sCell c j) 0 ∗ atPos ER (rCell c j) 0 ∅ 0 ∗ cred (tallyAt (rCell c j) () N))

/-- Transfer `j` ended: its two semaphores at zero. -/
def ended (c : Dev nD) (j : Fin 12) : sProp 𝕄 := iprop(semVal (sCell c j) 0 ∗ semVal (rCell c j) 0)

/-- The start of a transfer: the source slot's contents are what it sends, the destination slot is the neighbour's, any contents. -/
theorem wp_send (c : Dev nD) (j : Fin 12) {n p : Dev nD} (hn : n = p) (hp : p = peer j c) {k k' : ℕ} (hk : k < 16) (hk' : k' < 16) (ek : k = srcSlot j) (ek' : k' = dstSlot j)
    {s₁ s₂ : DmaSem sig} (hs₁ : s₁ = sSem j) (hs₂ : s₂ = rSem j) (l : List (Fin 12)) {X : FVec F S1x192x1536 .bf16} (hX : X = up (sent A j c))
    {hsc : (slotM k' hk' : Memref sig (Dev.tc n : Thread nD τ).2.kind .vmem S192x1536 .bf16).view.ref.isScScratch = false}
    {hsrc : (slotM k hk).view.WordExact} {hdst : (slotM k' hk' : Memref sig (Dev.tc n : Thread nD τ).2.kind .vmem S192x1536 .bf16).view.WordExact}
    {hsem : DmaTarget.Typed .vmem (.dma s₂) (.remote (Dev.tc n : Thread nD τ) (slotM k' hk' : Memref sig (Dev.tc n : Thread nD τ).2.kind .vmem S192x1536 .bf16) (.dma s₁) hsc)}
    {α : Type} {Q : α → sProp 𝕄} {k₀ : PUnit → Prog (TpuEff nD τ sig (Elt F) Λ₀ .tc) α} :
    iprop(known A K ∗ idle c j ∗ slot c k hk X ∗ slotAny (F := F) p k' hk' ∗ owing c (owed c (j :: l)))
      ⊢ iprop((iprop(flying c j ∗ owing c (owed c l)) -∗ wp frame (wpE (defs₀ (F := F)) 𝒱₀ (c : Thread nD τ) none) Set.univ (k₀ ⟨⟩) Q)
        -∗ wp frame (wpE (defs₀ (F := F)) 𝒱₀ (c : Thread nD τ) none) Set.univ
          (.op (.enqueueDma (slotM k hk) (.remote (Dev.tc n : Thread nD τ) (slotM k' hk') (.dma s₁) hsc) (.dma s₂) hsrc hdst hsem) k₀) Q) := by
  subst hn; subst hp; subst ek; subst ek'; subst hs₁; subst hs₂; subst hX
  unfold owing idle slotAny slot flying
  iintro ⟨#HK, ⟨Has, Har, Hts, Htr, Hcr⟩, ⟨%fs, %hfs, Hs⟩, ⟨%X', %fd, -, Hd⟩, ⟨%W, HO⟩⟩ Hk
  have hp₁ : ((slotM (srcSlot j) hk).view.loc (c : Thread nD τ) ↦[(slotM (srcSlot j) hk).view.set]{fullShare} fs : sProp 𝕄)
      ⊢ (ringRd A).payload ((c : Thread nD τ), .dma (sSem j)) 0 false := by
    rw [slotM_set, payload_send]; unfold slot
    iintro H
    iexists fs
    isplitr; · ipureintro; exact hfs
    iexact H
  have hp₂ : ((slotM (dstSlot j) hk').view.loc (peer j c : Thread nD τ) ↦[(slotM (dstSlot j) hk').view.set]{fullShare}
      (slotM (dstSlot j) hk').view.write (Elt F) fd ((slotM (srcSlot j) hk).view.read (Elt F) fs) Finset.univ : sProp 𝕄)
      ⊢ (ringRd A).payload ((peer j c : Thread nD τ), .dma (rSem j)) 0 false := by
    rw [slotM_set, payload_recv]; unfold slot
    iintro H
    iexists _
    isplitr
    · ipureintro
      rw [src_dst, ← hfs]
      exact landed _ _ hk hk' fs fd
    iexact H
  have hN : (slotM (dstSlot j) hk').view.amount (.dma (rSem j)) = N := rfl
  have H := (Rounds.wp_send_pointsTo (defs := defs₀ (F := F)) (Γ := .empty) 𝒱₀ ER (ringRd A) (c : Thread nD τ) none (κ₁ := K (c, some (false, j))) (κ₂ := K (peer j c, some (true, j)))
    (c' := (peer j c : Thread nD τ)) (src := slotM (srcSlot j) hk) (dst := slotM (dstSlot j) hk') (sS := .dma (sSem j)) (sem := .dma (rSem j))
    (r₁ := 0) (r₂ := 0) (d₁ := false) (d₂ := false) (fs := fs) (fd := fd) (mem_xfer A c (false, j)) (mem_xfer A (peer j c) (true, j))
    () () N hN (amount_xfer A c (false, j) false) (amount_xfer A (peer j c) (true, j) false) (owed c l) (O₀ := owed c (j :: l)) rfl (W := W) hp₁ hp₂
    (hsc := hsc) (hsrc := hsrc) (hdst := hdst) (hsem := hsem) (k := k₀) (Q := Q) (Es := Set.univ))
  iapply H $$ [Hs Hd HO Hts Htr]
  · isplitr; · iapply (known_inv A K c (some (false, j))); iexact HK
    isplitr; · iapply (known_inv A K (peer j c) (some (true, j))); iexact HK
    isplitl [Hs]; · rw [slotM_set]; iexact Hs
    isplitl [Hd]; · rw [slotM_set]; iexact Hd
    isplitl [HO]; · iexact HO
    isplitl [Hts]; · iexact Hts
    isplitr; · iapply (known_reached A K c (some (false, j))); iexact HK
    isplitl [Htr]; · iexact Htr
    iapply (known_reached A K (peer j c) (some (true, j))); iexact HK
  iintro ⟨Hcs, HO⟩
  iapply Hk
  isplitr [HO]
  · isplitl [Has]; · iexact Has
    isplitl [Har]; · iexact Har
    isplitl [Hcs]; · iexact Hcs
    iexact Hcr
  iexists W; iexact HO

/-- A wait on one of device `c`'s transfer cells for its round: its payload comes, and the cell is back at zero. -/
theorem wp_waitXfer (c : Dev nD) (x : Bool × Fin 12) {q : DmaSem sig} (hq : SemLoc.dma q = semOf (some x)) (l : List (Fin 12))
    (hl : ∀ i ∈ l, lv (cell c (some x)) () < 2 + i.val % 6) {k k' : ℕ} {hk : k < 16} {hk' : k' < 16}
    {hsrc : (slotM k hk).view.WordExact} {hdst : (slotM k' hk').view.WordExact}
    {α : Type} {Q : α → sProp 𝕄} {k₀ : PUnit → Prog (TpuEff nD τ sig (Elt F) Λ₀ .tc) α} :
    iprop(known A K ∗ atPos ER (cell c (some x)) 0 ∅ 0 ∗ cred (tallyAt (cell c (some x)) () N) ∗ owing c (owed c l))
      ⊢ iprop((iprop(semVal (cell c (some x)) 0 ∗ pay A c (some (some x)) false ∗ owing c (owed c l))
          -∗ wp frame (wpE (defs₀ (F := F)) 𝒱₀ (c : Thread nD τ) none) Set.univ (k₀ ⟨⟩) Q)
        -∗ wp frame (wpE (defs₀ (F := F)) 𝒱₀ (c : Thread nD τ) none) Set.univ
          (.op (.waitDma2 q (slotM k hk) (slotM k' hk') hsrc hdst) k₀) Q) := by
  unfold owing
  iintro ⟨#HK, Hat, Hc, ⟨%W, HO⟩⟩ Hk
  iapply (Rounds.wp_wait_rest_token 𝒱₀ ER (ringRd A) (c : Thread nD τ) none (κ := K (c, some x)) (sm := semOf (some x)) (k' := N)
      (by rw [← hq]; exact wpE_waitDma2_eq 𝒱₀ (c : Thread nD τ) none Set.univ) (Set.mem_univ _) () (O := owed c l) (W := W) (R := 0) (m := 0) (T := ∅)
      (by rw [Nat.zero_add]; exact (expect_xfer A c x).symm)) $$ [Hat Hc HO]
  · isplitr; · iapply (known_inv A K c (some x)); iexact HK
    isplitl [Hc]; · iexact Hc
    isplitl [HO]; · iexact HO
    isplitr
    · iapply (mayWait_ring c (some x) l hl)
      iapply (known_levels A K); iexact HK
    iexact Hat
  iintro ⟨HO, Hat, -, Hp⟩
  ihave Hp := (Entails.of_eq (rest_xfer A c x)) $$ Hp
  imod (Rounds.cell_close ER (ringRd A) (Set.mem_univ (K (c, some x))) (fun h => h) (R := 0 + 1) (duties_after A (cell c (some x)))) $$ [Hat] with Hz
  · isplitr; · iapply (known_inv A K c (some x)); iexact HK
    iexact Hat
  iapply Hk
  isplitl [Hz]; · iexact Hz
  isplitl [Hp]; · iexact Hp
  iexists _; iexact HO

/-- The wait on transfer `j`'s send semaphore: its source slot is back, as it was sent. -/
theorem wp_waitSend (c : Dev nD) (j : Fin 12) {q : DmaSem sig} (hq : q = sSem j) (l : List (Fin 12))
    {m m' : ℕ} (hm : m < 16) (hm' : m' < 16) (em : m = srcSlot j)
    {hsrc : (slotM m' hm').view.WordExact} {hdst : (slotM m hm).view.WordExact}
    {α : Type} {Q : α → sProp 𝕄} {k₀ : PUnit → Prog (TpuEff nD τ sig (Elt F) Λ₀ .tc) α} :
    iprop(known A K ∗ flying c j ∗ owing c (owed c l))
      ⊢ iprop((iprop(leaving c j ∗ slot c m hm (up (sent A j c)) ∗ owing c (owed c l))
          -∗ wp frame (wpE (defs₀ (F := F)) 𝒱₀ (c : Thread nD τ) none) Set.univ (k₀ ⟨⟩) Q)
        -∗ wp frame (wpE (defs₀ (F := F)) 𝒱₀ (c : Thread nD τ) none) Set.univ
          (.op (.waitDma2 q (slotM m' hm') (slotM m hm) hsrc hdst) k₀) Q) := by
  subst hq; subst em
  unfold flying leaving
  iintro ⟨#HK, ⟨Has, Har, Hcs, Hcr⟩, HO⟩ Hk
  iapply (wp_waitXfer A K c (false, j) (q := sSem j) rfl l fun i _ => by rw [lv_send]; omega) $$ [Has Hcs HO]
  · isplitr; · iexact HK
    isplitl [Has]; · iexact Has
    isplitl [Hcs] <;> iassumption
  rw [pay_send]
  iintro ⟨Hz, Hp, HO⟩
  iapply Hk
  isplitr [Hp HO]
  · isplitl [Hz]; · iexact Hz
    isplitl [Har] <;> iassumption
  isplitl [Hp] <;> iassumption

/-- The wait on transfer `j`'s receive semaphore: the slot it lands in, holding what the neighbour sent. -/
theorem wp_waitRecv (c : Dev nD) (j : Fin 12) {q : DmaSem sig} (hq : q = rSem j) (l : List (Fin 12)) (hl : ∀ i ∈ l, j.val % 6 < i.val % 6)
    {m m' : ℕ} (hm : m < 16) (hm' : m' < 16) (em' : m' = dstSlot j)
    {hsrc : (slotM m hm).view.WordExact} {hdst : (slotM m' hm').view.WordExact}
    {α : Type} {Q : α → sProp 𝕄} {k₀ : PUnit → Prog (TpuEff nD τ sig (Elt F) Λ₀ .tc) α} :
    iprop(known A K ∗ leaving c j ∗ owing c (owed c l))
      ⊢ iprop((iprop(ended c j ∗ slot c m' hm' (up (sent A j (src (dir j) c))) ∗ owing c (owed c l))
          -∗ wp frame (wpE (defs₀ (F := F)) 𝒱₀ (c : Thread nD τ) none) Set.univ (k₀ ⟨⟩) Q)
        -∗ wp frame (wpE (defs₀ (F := F)) 𝒱₀ (c : Thread nD τ) none) Set.univ
          (.op (.waitDma2 q (slotM m hm) (slotM m' hm') hsrc hdst) k₀) Q) := by
  subst hq; subst em'
  unfold leaving ended
  iintro ⟨#HK, ⟨Hzs, Har, Hcr⟩, HO⟩ Hk
  iapply (wp_waitXfer A K c (true, j) (q := rSem j) rfl l fun i hi => by rw [lv_recv]; have := hl i hi; omega) $$ [Har Hcr HO]
  · isplitr; · iexact HK
    isplitl [Har]; · iexact Har
    isplitl [Hcr] <;> iassumption
  rw [pay_recv]
  iintro ⟨Hz, Hp, HO⟩
  iapply Hk
  isplitr [Hp HO]
  · isplitl [Hzs] <;> iassumption
  isplitl [Hp] <;> iassumption

/-- The two waits that end transfer `j`, one after the other. -/
theorem wp_waitBoth (c : Dev nD) (j : Fin 12) {q q' : DmaSem sig} (hq : q = sSem j) (hq' : q' = rSem j) (l : List (Fin 12))
    (hl : ∀ i ∈ l, j.val % 6 < i.val % 6) {m m' : ℕ} (hm : m < 16) (hm' : m' < 16) (em : m = srcSlot j) (em' : m' = dstSlot j)
    {w₁ : (slotM m' hm').view.WordExact} {w₂ : (slotM m hm).view.WordExact} {w₃ : (slotM m hm).view.WordExact} {w₄ : (slotM m' hm').view.WordExact}
    {α : Type} {Q : α → sProp 𝕄} {k₀ : PUnit → Prog (TpuEff nD τ sig (Elt F) Λ₀ .tc) α} :
    iprop(known A K ∗ flying c j ∗ owing c (owed c l))
      ⊢ iprop((iprop(ended c j ∗ slot c m hm (up (sent A j c)) ∗ slot c m' hm' (up (sent A j (src (dir j) c))) ∗ owing c (owed c l))
          -∗ wp frame (wpE (defs₀ (F := F)) 𝒱₀ (c : Thread nD τ) none) Set.univ (k₀ ⟨⟩) Q)
        -∗ wp frame (wpE (defs₀ (F := F)) 𝒱₀ (c : Thread nD τ) none) Set.univ
          (.op (.waitDma2 q (slotM m' hm') (slotM m hm) w₁ w₂) fun _ => .op (.waitDma2 q' (slotM m hm) (slotM m' hm') w₃ w₄) k₀) Q) := by
  iintro ⟨#HK, Hf, HO⟩ Hk
  iapply (wp_waitSend A K c j hq l hm hm' em) $$ [Hf HO]
  · iframe; iexact HK
  iintro ⟨Hf, Hs, HO⟩
  iapply (wp_waitRecv A K c j hq' l hl hm hm' em') $$ [Hf HO]
  · iframe; iexact HK
  iintro ⟨Hf, Hs', HO⟩
  iapply Hk
  iframe

end Cert.RingProof

end
-- ==== Proof.Reduce.lean ====
/-
The handshake and the first three steps of the ring: every half block is added up as it goes round. One
theorem per part of the kernel's text, saying what the part needs and what it leaves.
-/
module

public import proofs.«01_k».proof.Proof.Links

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

/-- Device `c`'s program `p`, started, ends with `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` holds its accumulator. -/
abbrev accPts (A : Dev nD → FVec F S1536x1536 .f32) (c : Dev nD) : sProp 𝕄 := accL c ↦{fullShare} (A c : Buf (Elt F) (accL c))

/-- Slot `k` of device `c` holds what its transfer `j` carries. -/
abbrev mine (A : Dev nD → FVec F S1536x1536 .f32) (c : Dev nD) (j : Fin 12) (k : ℕ) (hk : k < 16 := by decide) : sProp 𝕄 :=
  slot c k hk (up (sent A j c))

/-- Slot `k` of device `c` holds what the neighbour's transfer `j` brought. -/
abbrev came (A : Dev nD → FVec F S1536x1536 .f32) (c : Dev nD) (j : Fin 12) (k : ℕ) (hk : k < 16 := by decide) : sProp 𝕄 :=
  slot c k hk (up (sent A j (src (dir j) c)))

/-- Slot `k` of device `c` holds anything. -/
abbrev free (c : Dev nD) (k : ℕ) (hk : k < 16 := by decide) : sProp 𝕄 := slotAny (F := F) c k hk

/-- What transfer `j` brought to device `c`. -/
abbrev got (A : Dev nD → FVec F S1536x1536 .f32) (c : Dev nD) (j : Fin 12) : FVec F S1x192x1536 .bf16 := up (sent A j (src (dir j) c))

variable (A : Dev nD → FVec F S1536x1536 .f32) (K : Dev nD × Site → ℕ) (c : Dev nD)
  {i : grid0.Coords} {a1 : Memref sig .tc .vmem S1536x1536 .bf16} {h1 : a1.IsWhole} {a2 : Memref sig .tc .vmem S1536x256 .bf16} {h2 : a2.IsWhole}
  {a3 : Memref sig .tc .vmem S1536x256 .bf16} {h3 : a3.IsWhole} {a4 : Memref sig .tc .vmem S256x1536 .bf16} {h4 : a4.IsWhole}
  {a5 : Memref sig .tc .vmem S1536x1536 .bf16} {h5 : a5.IsWhole} {a6 : Memref sig .tc .vmem S1536x1536 .bf16} {h6 : a6.IsWhole}
  {h7 : accM.IsWhole} {h8 : comm.IsWhole} {hc : k0_cond2 i = 1#1}
  {α : Type} {Q : α → sProp (MT nD τ sig Unit (Elt F) ℕ Alg ℕ)}

/-- The handshake. -/
theorem wp_part1 (l : List (Fin 12)) {k : (Σ' (d26 : Dev nD) (v28 : BitVec 32) (v39 : BitVec 32), BitVec 32) → Prog (TpuEff nD τ sig (Elt F) Λ₀ .tc) α} :
    iprop(known A K ∗ dutyTok ER (cell (dst false c) none) 0 true ∗ dutyTok ER (cell (dst true c) none) 0 false
        ∗ landing (F := F) c true ∗ landing (F := F) c false ∗ atPos ER (cell c none) 0 ∅ 0 ∗ cred (tallyAt (cell c none) () 2)
        ∗ owing c (owed c l + tallyAt (cell (dst true c) none) () 1 + tallyAt (cell (dst false c) none) () 1))
      ⊢ iprop((∀ w₁ w₂ w₃, iprop(owing c (owed c l) ∗ semVal (cell c none) 0 ∗ landing (F := F) (dst true c) true ∗ landing (F := F) (dst false c) false)
          -∗ WP c (k ⟨c, w₁, w₂, w₃⟩) Q)
        -∗ WP c (k0_part1 i a1 h1 a2 h2 a3 h3 a4 h4 a5 h5 a6 h6 accM h7 comm h8 cc0_scratch3 cc0_scratch4 hc >>= k) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HK, Ht₁, Ht₂, Hl₁, Hl₂, Hat, Hc, HO⟩ Hk
  iapply (wp_signalBar A K c false (n := ⟨k0_dev1 c, _⟩) (Fin.ext (sig1 c)) rfl rfl (owed c l + tallyAt (cell (dst true c) none) () 1)) $$ [Ht₁ Hl₁ HO]
  · isplitr; · iexact HK
    isplitl [Ht₁]; · iexact Ht₁
    isplitl [Hl₁]; · iexact Hl₁
    iexact HO
  iintro HO
  iapply (wp_signalBar A K c true (n := ⟨k0_dev2 c, _⟩) (Fin.ext (sig2 c)) rfl rfl (owed c l)) $$ [Ht₂ Hl₂ HO]
  · isplitr; · iexact HK
    isplitl [Ht₂]; · iexact Ht₂
    isplitl [Hl₂]; · iexact Hl₂
    iexact HO
  iintro HO
  iapply (wp_waitBar A K c rfl rfl l) $$ [Hat Hc HO]
  · isplitr; · iexact HK
    isplitl [Hat]; · iexact Hat
    isplitl [Hc] <;> iassumption
  iintro H
  iapply Hk
  iexact H

/-- The first half block to the right, rounded into slot 0. -/
theorem wp_part2 {w : BitVec 32} {k : FVec F S192x1536 .bf16 → Prog (TpuEff nD τ sig (Elt F) Λ₀ .tc) α} :
    iprop(accPts A c ∗ free c 0)
      ⊢ iprop((iprop(accPts A c ∗ mine A c 0 0) -∗ WP c (k (k0_pay5 (rowsOf (A c) (half false (src false c))))) Q)
        -∗ WP c (k0_part2 i a1 h1 a2 h2 a3 h3 a4 h4 a5 h5 a6 h6 accM h7 comm h8 cc0_scratch3 cc0_scratch4 hc c w >>= k) Q) := by
  rw [k0_part2_eq_skeleton]; unfold k0_part2_skel
  simp only [Prog.lift, Prog.bind_op, Prog.bind_ret, Prog.pure_eq_ret, Prog.bind_assoc]
  iintro ⟨Ha, Hs⟩ Hk
  iapply (wp_loadAcc c (A c) (half true (src true c)) (row1 c)) $$ Ha; iintro Ha
  iapply (wp_put c (X := up (sent A 0 c)) (pay4_eq _)) $$ Hs; iintro Hs
  iapply (wp_loadAcc c (A c) (half false (src false c)) (row2 c)) $$ Ha; iintro Ha
  iapply Hk; iframe

/-- The first half block to the left, rounded into slot 8; transfers 0 and 6 start. -/
theorem wp_part3 {w w' : BitVec 32} (l : List (Fin 12)) {k : PUnit → Prog (TpuEff nD τ sig (Elt F) Λ₀ .tc) α} :
    iprop(known A K ∗ mine A c 0 0 ∗ free c 8 ∗ idle c 0 ∗ idle c 6 ∗ free (dst true c) 1 ∗ free (dst false c) 9 ∗ owing c (owed c (0 :: 6 :: l)))
      ⊢ iprop((iprop(flying c 0 ∗ flying c 6 ∗ owing c (owed c l)) -∗ WP c (k ⟨⟩) Q)
        -∗ WP c (k0_part3 i a1 h1 a2 h2 a3 h3 a4 h4 a5 h5 a6 h6 accM h7 comm h8 cc0_scratch3 cc0_scratch4 hc c w w'
          (k0_pay5 (rowsOf (A c) (half false (src false c)))) >>= k) Q) := by
  rw [k0_part3_eq_skeleton]; unfold k0_part3_skel
  simp only [Prog.lift, Prog.bind_op, Prog.bind_ret, Prog.pure_eq_ret, Prog.bind_assoc]
  iintro ⟨#HK, Hs, Hs', Hi, Hi', Hd, Hd', HO⟩ Hk
  iapply (wp_put c (X := up (sent A 6 c)) (pay6_eq _)) $$ Hs'; iintro Hs'
  iapply (wp_send A K c 0 (n := ⟨k0_dev3 c, _⟩) (Fin.ext (to3 c)) rfl (k := 0) (k' := 1) (by decide) (by decide) rfl rfl rfl rfl (6 :: l) rfl) $$ [Hi Hs Hd HO]
  · iframe; iexact HK
  iintro ⟨Hf, HO⟩
  iapply (wp_send A K c 6 (n := ⟨k0_dev4 c, _⟩) (Fin.ext (to4 c)) rfl (k := 8) (k' := 9) (by decide) (by decide) rfl rfl rfl rfl l rfl) $$ [Hi' Hs' Hd' HO]
  · iframe; iexact HK
  iintro ⟨Hf', HO⟩
  iapply Hk; iframe

/-- Transfers 0 and 6 end: their slots are back, and slots 1 and 9 hold what came. -/
theorem wp_part4 {w w' w'' : BitVec 32} (l : List (Fin 12)) (hl : ∀ i ∈ l, (0 : Fin 12).val % 6 < i.val % 6)
    {k : BitVec 32 → Prog (TpuEff nD τ sig (Elt F) Λ₀ .tc) α} :
    iprop(known A K ∗ flying c 0 ∗ flying c 6 ∗ owing c (owed c l))
      ⊢ iprop((∀ w₁, iprop(ended c 0 ∗ ended c 6 ∗ mine A c 0 0 ∗ came A c 0 1 ∗ mine A c 6 8 ∗ came A c 6 9 ∗ owing c (owed c l)) -∗ WP c (k w₁) Q)
        -∗ WP c (k0_part4 i a1 h1 a2 h2 a3 h3 a4 h4 a5 h5 a6 h6 accM h7 comm h8 cc0_scratch3 cc0_scratch4 w w' w'' >>= k) Q) := by
  rw [k0_part4_eq_skeleton]; unfold k0_part4_skel
  simp only [Prog.lift, Prog.bind_op, Prog.bind_ret, Prog.pure_eq_ret, Prog.bind_assoc]
  iintro ⟨#HK, Hf, Hf', HO⟩ Hk
  iapply (wp_waitBoth A K c 0 rfl rfl l hl (m := 0) (m' := 1) (by decide) (by decide) rfl rfl) $$ [Hf HO]
  · iframe; iexact HK
  iintro ⟨Hf, Hs, Hr, HO⟩
  iapply (wp_waitBoth A K c 6 rfl rfl l hl (m := 8) (m' := 9) (by decide) (by decide) rfl rfl) $$ [Hf' HO]
  · iframe; iexact HK
  iintro ⟨Hf', Hs', Hr', HO⟩
  iapply Hk; iframe

/-- The second step's loads. -/
theorem wp_part5 {w w' : BitVec 32} {k : (Σ' (v174 : FVec F S192x1536 .f32) (v177 : FVec F S192x1536 .f32), BitVec 32) → Prog (TpuEff nD τ sig (Elt F) Λ₀ .tc) α} :
    iprop(accPts A c ∗ came A c 0 1 ∗ came A c 6 9)
      ⊢ iprop((∀ w₁, iprop(accPts A c ∗ came A c 0 1 ∗ came A c 6 9)
          -∗ WP c (k ⟨k0_pay7 (got A c 0) (rowsOf (A c) (half true (src true (src true c)))), k0_pay8 (got A c 6), w₁⟩) Q)
        -∗ WP c (k0_part5 i a1 h1 a2 h2 a3 h3 a4 h4 a5 h5 a6 h6 accM h7 comm h8 cc0_scratch3 cc0_scratch4 hc c w w' >>= k) Q) := by
  rw [k0_part5_eq_skeleton]; unfold k0_part5_skel
  simp only [Prog.lift, Prog.bind_op, Prog.bind_ret, Prog.pure_eq_ret, Prog.bind_assoc]
  iintro ⟨Ha, Hs, Hs'⟩ Hk
  iapply (wp_loadSlot c) $$ Hs; iintro Hs
  iapply (wp_loadAcc c (A c) (half true (src true (src true c))) (row3_0 c)) $$ Ha; iintro Ha
  iapply (wp_loadSlot c) $$ Hs'; iintro Hs'
  iapply Hk; iframe

/-- The second step's sums into slots 0 and 8; transfer 1 starts. -/
theorem wp_part6 {w w' w'' : BitVec 32} (l : List (Fin 12)) {k : PUnit → Prog (TpuEff nD τ sig (Elt F) Λ₀ .tc) α} :
    iprop(known A K ∗ accPts A c ∗ free c 0 ∗ free c 8 ∗ idle c 1 ∗ free (dst true c) 2 ∗ owing c (owed c (1 :: l)))
      ⊢ iprop((iprop(accPts A c ∗ flying c 1 ∗ mine A c 7 8 ∗ owing c (owed c l)) -∗ WP c (k ⟨⟩) Q)
        -∗ WP c (k0_part6 i a1 h1 a2 h2 a3 h3 a4 h4 a5 h5 a6 h6 accM h7 comm h8 cc0_scratch3 cc0_scratch4 hc c w w'
          (k0_pay7 (got A c 0) (rowsOf (A c) (half true (src true (src true c))))) (k0_pay8 (got A c 6)) w'' >>= k) Q) := by
  rw [k0_part6_eq_skeleton]; unfold k0_part6_skel
  simp only [Prog.lift, Prog.bind_op, Prog.bind_ret, Prog.pure_eq_ret, Prog.bind_assoc]
  iintro ⟨#HK, Ha, Hs, Hs', Hi, Hd, HO⟩ Hk
  iapply (wp_loadAcc c (A c) (half false (src false (src false c))) (row4_0 c)) $$ Ha; iintro Ha
  iapply (wp_put c (X := up (sent A 1 c)) (pay9_eq _ _)) $$ Hs; iintro Hs
  iapply (wp_put c (X := up (sent A 7 c)) (pay10_eq _ _)) $$ Hs'; iintro Hs'
  iapply (wp_send A K c 1 (n := ⟨k0_dev5 c, _⟩) (Fin.ext (to5 c)) rfl (k := 0) (k' := 2) (by decide) (by decide) rfl rfl rfl rfl l rfl) $$ [Hi Hs Hd HO]
  · iframe; iexact HK
  iintro ⟨Hf, HO⟩
  iapply Hk; iframe

/-- Transfer 7 starts; transfer 1 ends; slot 8 is back. -/
theorem wp_part7 {w : BitVec 32} (l : List (Fin 12)) (hl : ∀ i ∈ l, (1 : Fin 12).val % 6 < i.val % 6)
    {k : BitVec 32 → Prog (TpuEff nD τ sig (Elt F) Λ₀ .tc) α} :
    iprop(known A K ∗ flying c 1 ∗ mine A c 7 8 ∗ idle c 7 ∗ free (dst false c) 10 ∗ owing c (owed c (7 :: l)))
      ⊢ iprop((∀ w₁, iprop(ended c 1 ∗ leaving c 7 ∗ mine A c 1 0 ∗ came A c 1 2 ∗ mine A c 7 8 ∗ owing c (owed c l)) -∗ WP c (k w₁) Q)
        -∗ WP c (k0_part7 i a1 h1 a2 h2 a3 h3 a4 h4 a5 h5 a6 h6 accM h7 comm h8 cc0_scratch3 cc0_scratch4 hc c w >>= k) Q) := by
  rw [k0_part7_eq_skeleton]; unfold k0_part7_skel
  simp only [Prog.lift, Prog.bind_op, Prog.bind_ret, Prog.pure_eq_ret, Prog.bind_assoc]
  iintro ⟨#HK, Hf, Hs', Hi, Hd, HO⟩ Hk
  iapply (wp_send A K c 7 (n := ⟨k0_dev6 c, _⟩) (Fin.ext (to6 c)) rfl (k := 8) (k' := 10) (by decide) (by decide) rfl rfl rfl rfl l rfl) $$ [Hi Hs' Hd HO]
  · iframe; iexact HK
  iintro ⟨Hf', HO⟩
  iapply (wp_waitBoth A K c 1 rfl rfl l hl (m := 0) (m' := 2) (by decide) (by decide) rfl rfl) $$ [Hf HO]
  · iframe; iexact HK
  iintro ⟨Hf, Hs, Hr, HO⟩
  iapply (wp_waitSend A K c 7 rfl l (m := 8) (m' := 10) (by decide) (by decide) rfl) $$ [Hf' HO]
  · iframe; iexact HK
  iintro ⟨Hf', Hs', HO⟩
  iapply Hk; iframe

/-- Transfer 7 ends. -/
theorem wp_part8 {w w' w'' : BitVec 32} (l : List (Fin 12)) (hl : ∀ i ∈ l, (7 : Fin 12).val % 6 < i.val % 6)
    {k : (Σ' (v251 : BitVec 32) (v263 : BitVec 32), Vec F S1x192x1536 .bf16) → Prog (TpuEff nD τ sig (Elt F) Λ₀ .tc) α} :
    iprop(known A K ∗ leaving c 7 ∗ came A c 1 2 ∗ owing c (owed c l))
      ⊢ iprop((∀ w₁ w₂, iprop(ended c 7 ∗ came A c 1 2 ∗ came A c 7 10 ∗ owing c (owed c l)) -∗ WP c (k ⟨w₁, w₂, got A c 1⟩) Q)
        -∗ WP c (k0_part8 i a1 h1 a2 h2 a3 h3 a4 h4 a5 h5 a6 h6 accM h7 comm h8 cc0_scratch3 cc0_scratch4 w w' w'' >>= k) Q) := by
  rw [k0_part8_eq_skeleton]; unfold k0_part8_skel
  simp only [Prog.lift, Prog.bind_op, Prog.bind_ret, Prog.pure_eq_ret, Prog.bind_assoc]
  iintro ⟨#HK, Hf, Hr, HO⟩ Hk
  iapply (wp_waitRecv A K c 7 rfl l hl (m := 8) (m' := 10) (by decide) (by decide) rfl) $$ [Hf HO]
  · iframe; iexact HK
  iintro ⟨Hf, Hr', HO⟩
  iapply (wp_loadSlot c) $$ Hr; iintro Hr
  iapply Hk; iframe

/-- The third step's sums into slots 0 and 8; transfer 2 starts. -/
theorem wp_part9 {w w' w'' : BitVec 32} (l : List (Fin 12)) {k : PUnit → Prog (TpuEff nD τ sig (Elt F) Λ₀ .tc) α} :
    iprop(known A K ∗ accPts A c ∗ came A c 7 10 ∗ free c 0 ∗ free c 8 ∗ idle c 2 ∗ free (dst true c) 3 ∗ owing c (owed c (2 :: l)))
      ⊢ iprop((iprop(accPts A c ∗ flying c 2 ∗ mine A c 8 8 ∗ came A c 7 10 ∗ owing c (owed c l)) -∗ WP c (k ⟨⟩) Q)
        -∗ WP c (k0_part9 i a1 h1 a2 h2 a3 h3 a4 h4 a5 h5 a6 h6 accM h7 comm h8 cc0_scratch3 cc0_scratch4 hc c w w' w'' (got A c 1) >>= k) Q) := by
  rw [k0_part9_eq_skeleton]; unfold k0_part9_skel
  simp only [Prog.lift, Prog.bind_op, Prog.bind_ret, Prog.pure_eq_ret, Prog.bind_assoc]
  iintro ⟨#HK, Ha, Hr', Hs, Hs', Hi, Hd, HO⟩ Hk
  iapply (wp_loadAcc c (A c) (half true (src true (src true (src true c)))) (row3_1 c)) $$ Ha; iintro Ha
  iapply (wp_loadSlot c) $$ Hr'; iintro Hr'
  iapply (wp_loadAcc c (A c) (half false (src false (src false (src false c)))) (row4_1 c)) $$ Ha; iintro Ha
  iapply (wp_put c (X := up (sent A 2 c)) (pay11_eq _ _)) $$ Hs; iintro Hs
  iapply (wp_put c (X := up (sent A 8 c)) (pay12_eq _ _)) $$ Hs'; iintro Hs'
  iapply (wp_send A K c 2 (n := ⟨k0_dev7 c, _⟩) (Fin.ext (to7 c)) rfl (k := 0) (k' := 3) (by decide) (by decide) rfl rfl rfl rfl l rfl) $$ [Hi Hs Hd HO]
  · iframe; iexact HK
  iintro ⟨Hf, HO⟩
  iapply Hk; iframe

/-- Transfer 8 starts; transfer 2 ends. -/
theorem wp_part10 {w w' : BitVec 32} (l : List (Fin 12)) (hl : ∀ i ∈ l, (2 : Fin 12).val % 6 < i.val % 6)
    {k : PUnit → Prog (TpuEff nD τ sig (Elt F) Λ₀ .tc) α} :
    iprop(known A K ∗ flying c 2 ∗ mine A c 8 8 ∗ idle c 8 ∗ free (dst false c) 11 ∗ owing c (owed c (8 :: l)))
      ⊢ iprop((iprop(ended c 2 ∗ flying c 8 ∗ mine A c 2 0 ∗ came A c 2 3 ∗ owing c (owed c l)) -∗ WP c (k ⟨⟩) Q)
        -∗ WP c (k0_part10 i a1 h1 a2 h2 a3 h3 a4 h4 a5 h5 a6 h6 accM h7 comm h8 cc0_scratch3 cc0_scratch4 hc c w w' >>= k) Q) := by
  rw [k0_part10_eq_skeleton]; unfold k0_part10_skel
  simp only [Prog.lift, Prog.bind_op, Prog.bind_ret, Prog.pure_eq_ret, Prog.bind_assoc]
  iintro ⟨#HK, Hf, Hs', Hi, Hd, HO⟩ Hk
  iapply (wp_send A K c 8 (n := ⟨k0_dev8 c, _⟩) (Fin.ext (to8 c)) rfl (k := 8) (k' := 11) (by decide) (by decide) rfl rfl rfl rfl l rfl) $$ [Hi Hs' Hd HO]
  · iframe; iexact HK
  iintro ⟨Hf', HO⟩
  iapply (wp_waitBoth A K c 2 rfl rfl l hl (m := 0) (m' := 3) (by decide) (by decide) rfl rfl) $$ [Hf HO]
  · iframe; iexact HK
  iintro ⟨Hf, Hs, Hr, HO⟩
  iapply Hk; iframe

/-- Transfer 8 ends. -/
theorem wp_part11 {w w' : BitVec 32} (l : List (Fin 12)) (hl : ∀ i ∈ l, (8 : Fin 12).val % 6 < i.val % 6)
    {k : (Σ' (v347 : BitVec 32) (v349 : BitVec 32) (c4_i32_302 : BitVec 32) (v350 : BitVec 1), BitVec 32) → Prog (TpuEff nD τ sig (Elt F) Λ₀ .tc) α} :
    iprop(known A K ∗ flying c 8 ∗ owing c (owed c l))
      ⊢ iprop((∀ w₁ w₂ w₃ w₄ w₅, iprop(ended c 8 ∗ mine A c 8 8 ∗ came A c 8 11 ∗ owing c (owed c l)) -∗ WP c (k ⟨w₁, w₂, w₃, w₄, w₅⟩) Q)
        -∗ WP c (k0_part11 i a1 h1 a2 h2 a3 h3 a4 h4 a5 h5 a6 h6 accM h7 comm h8 cc0_scratch3 cc0_scratch4 w w' >>= k) Q) := by
  rw [k0_part11_eq_skeleton]; unfold k0_part11_skel
  simp only [Prog.lift, Prog.bind_op, Prog.bind_ret, Prog.pure_eq_ret, Prog.bind_assoc]
  iintro ⟨#HK, Hf, HO⟩ Hk
  iapply (wp_waitBoth A K c 8 rfl rfl l hl (m := 8) (m' := 11) (by decide) (by decide) rfl rfl) $$ [Hf HO]
  · iframe; iexact HK
  iintro ⟨Hf, Hs, Hr, HO⟩
  iapply Hk; iframe

end Cert.RingProof

end
-- ==== Proof.Gather.lean ====
/-
The last sum and the three steps that hand the sums on: every device writes all eight half blocks of the
result. One theorem per part of the kernel's text.
-/
module

public import proofs.«01_k».proof.Proof.Reduce

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

/-- The last sum in either direction is the device's own half block of the result. -/
theorem last_eq (A : Dev nD → FVec F S1536x1536 .f32) (b : Bool) (c : Dev nD) :
    step (part A b 2 (src b c)) (rowsOf (A c) (half b c)) = total A b c := by
  have h : home b 4 c = c := src_four b c
  change _ = step (part A b 2 (src b c)) (rowsOf (A c) (half b (home b 4 c)))
  rw [h]

variable (A : Dev nD → FVec F S1536x1536 .f32) (K : Dev nD × Site → ℕ) (c : Dev nD)
  {i : grid0.Coords} {a1 : Memref sig .tc .vmem S1536x1536 .bf16} {h1 : a1.IsWhole} {a2 : Memref sig .tc .vmem S1536x256 .bf16} {h2 : a2.IsWhole}
  {a3 : Memref sig .tc .vmem S1536x256 .bf16} {h3 : a3.IsWhole} {a4 : Memref sig .tc .vmem S256x1536 .bf16} {h4 : a4.IsWhole}
  {a5 : Memref sig .tc .vmem S1536x1536 .bf16} {h5 : a5.IsWhole} {a6 : Memref sig .tc .vmem S1536x1536 .bf16} {h6 : a6.IsWhole}
  {h7 : accM.IsWhole} {h8 : comm.IsWhole} {hc : k0_cond2 i = 1#1}
  {α : Type} {Q : α → sProp (MT nD τ sig Unit (Elt F) ℕ Alg ℕ)}

/-- The last sums, into the result. -/
theorem wp_part12 {S : Finset (Fin 8)} {w w' w'' w₃ w₄ : BitVec 32} {v : BitVec 1}
    {k : (Σ' (v374 : FVec F S192x1536 .f32), FVec F S192x1536 .bf16) → Prog (TpuEff nD τ sig (Elt F) Λ₀ .tc) α} :
    iprop(accPts A c ∗ came A c 2 3 ∗ came A c 8 11 ∗ outPts c a5 (resBlk A) S ∗ free c 4)
      ⊢ iprop((iprop(accPts A c ∗ came A c 2 3 ∗ came A c 8 11 ∗ outPts c a5 (resBlk A) (insert (half false c) (insert (half true c) S)) ∗ free c 4)
          -∗ WP c (k ⟨k0_pay14 (got A c 8) (rowsOf (A c) (half false c)), k0_pay17 (got A c 2) (rowsOf (A c) (half true c))⟩) Q)
        -∗ WP c (k0_part12 i a1 h1 a2 h2 a3 h3 a4 h4 a5 h5 a6 h6 accM h7 comm h8 cc0_scratch3 cc0_scratch4 hc c w w' w'' w₃ v w₄ >>= k) Q) := by
  rw [k0_part12_eq_skeleton]; unfold k0_part12_skel
  simp only [Prog.lift, Prog.bind_op, Prog.bind_ret, Prog.pure_eq_ret, Prog.bind_assoc]
  iintro ⟨Ha, Hr, Hr', Ho, Hs⟩ Hk
  iapply (wp_loadSlot c) $$ Hr; iintro Hr
  iapply (wp_loadAcc c (A c) (half true c) (row3_2 c)) $$ Ha; iintro Ha
  iapply (wp_loadSlot c) $$ Hr'; iintro Hr'
  iapply (wp_loadAcc c (A c) (half false c) (row4_2 c)) $$ Ha; iintro Ha
  iapply (wp_putOut c (half true c) (((pay15_eq _ _).trans (last_eq A true c)).trans (resBlk_half A true c).symm) (row5 c)) $$ Ho; iintro Ho
  iapply (wp_putOut c (half false c) (((pay16_eq _ _).trans (last_eq A false c)).trans (resBlk_half A false c).symm) (row6 c)) $$ Ho; iintro Ho
  iapply (wp_loadAny c) $$ Hs; iintro %_ Hs
  iapply Hk; iframe

/-- The last sums into slots 4 and 12; transfers 3 and 9 start. -/
theorem wp_part13 {w w' : BitVec 32} (l : List (Fin 12)) {k : PUnit → Prog (TpuEff nD τ sig (Elt F) Λ₀ .tc) α} :
    iprop(known A K ∗ free c 4 ∗ free c 12 ∗ idle c 3 ∗ idle c 9 ∗ free (dst true c) 5 ∗ free (dst false c) 13 ∗ owing c (owed c (3 :: 9 :: l)))
      ⊢ iprop((iprop(flying c 3 ∗ flying c 9 ∗ owing c (owed c l)) -∗ WP c (k ⟨⟩) Q)
        -∗ WP c (k0_part13 i a1 h1 a2 h2 a3 h3 a4 h4 a5 h5 a6 h6 accM h7 comm h8 cc0_scratch3 cc0_scratch4 hc c w w'
          (k0_pay14 (got A c 8) (rowsOf (A c) (half false c))) (k0_pay17 (got A c 2) (rowsOf (A c) (half true c))) >>= k) Q) := by
  rw [k0_part13_eq_skeleton]; unfold k0_part13_skel
  simp only [Prog.lift, Prog.bind_op, Prog.bind_ret, Prog.pure_eq_ret, Prog.bind_assoc]
  iintro ⟨#HK, Hs, Hs', Hi, Hi', Hd, Hd', HO⟩ Hk
  iapply (wp_storeAny c (X := up (sent A 3 c)) ((pay18_eq _ _).trans (congrArg up (last_eq A true c)))) $$ Hs; iintro Hs
  iapply (wp_put c (X := up (sent A 9 c)) ((pay19_eq _ _).trans (congrArg up (last_eq A false c)))) $$ Hs'; iintro Hs'
  iapply (wp_send A K c 3 (n := ⟨k0_dev9 c, _⟩) (Fin.ext (to9 c)) rfl (k := 4) (k' := 5) (by decide) (by decide) rfl rfl rfl rfl (9 :: l) rfl) $$ [Hi Hs Hd HO]
  · iframe; iexact HK
  iintro ⟨Hf, HO⟩
  iapply (wp_send A K c 9 (n := ⟨k0_dev10 c, _⟩) (Fin.ext (to10 c)) rfl (k := 12) (k' := 13) (by decide) (by decide) rfl rfl rfl rfl l rfl) $$ [Hi' Hs' Hd' HO]
  · iframe; iexact HK
  iintro ⟨Hf', HO⟩
  iapply Hk; iframe

/-- Transfer 3 ends; slot 12 is back. -/
theorem wp_part14 {w w' : BitVec 32} (l : List (Fin 12)) (hl : ∀ i ∈ l, (3 : Fin 12).val % 6 < i.val % 6)
    {k : PUnit → Prog (TpuEff nD τ sig (Elt F) Λ₀ .tc) α} :
    iprop(known A K ∗ flying c 3 ∗ flying c 9 ∗ owing c (owed c l))
      ⊢ iprop((iprop(ended c 3 ∗ leaving c 9 ∗ mine A c 3 4 ∗ came A c 3 5 ∗ mine A c 9 12 ∗ owing c (owed c l)) -∗ WP c (k ⟨⟩) Q)
        -∗ WP c (k0_part14 i a1 h1 a2 h2 a3 h3 a4 h4 a5 h5 a6 h6 accM h7 comm h8 cc0_scratch3 cc0_scratch4 w w' >>= k) Q) := by
  rw [k0_part14_eq_skeleton]; unfold k0_part14_skel
  simp only [Prog.lift, Prog.bind_op, Prog.bind_ret, Prog.pure_eq_ret, Prog.bind_assoc]
  iintro ⟨#HK, Hf, Hf', HO⟩ Hk
  iapply (wp_waitBoth A K c 3 rfl rfl l hl (m := 4) (m' := 5) (by decide) (by decide) rfl rfl) $$ [Hf HO]
  · iframe; iexact HK
  iintro ⟨Hf, Hs, Hr, HO⟩
  iapply (wp_waitSend A K c 9 rfl l (m := 12) (m' := 13) (by decide) (by decide) rfl) $$ [Hf' HO]
  · iframe; iexact HK
  iintro ⟨Hf', Hs', HO⟩
  iapply Hk; iframe

/-- Transfer 9 ends; the half block from the left neighbour into the result. -/
theorem wp_part15 {S : Finset (Fin 8)} {w : BitVec 32} (l : List (Fin 12)) (hl : ∀ i ∈ l, (9 : Fin 12).val % 6 < i.val % 6)
    {k : (Σ' (v464 : BitVec 32), FVec F S192x1536 .bf16) → Prog (TpuEff nD τ sig (Elt F) Λ₀ .tc) α} :
    iprop(known A K ∗ leaving c 9 ∗ came A c 3 5 ∗ outPts c a5 (resBlk A) S ∗ owing c (owed c l))
      ⊢ iprop((∀ w₁, iprop(ended c 9 ∗ came A c 3 5 ∗ came A c 9 13 ∗ outPts c a5 (resBlk A) (insert (half true (src true c)) S) ∗ owing c (owed c l))
          -∗ WP c (k ⟨w₁, k0_pay21 (got A c 9)⟩) Q)
        -∗ WP c (k0_part15 i a1 h1 a2 h2 a3 h3 a4 h4 a5 h5 a6 h6 accM h7 comm h8 cc0_scratch3 cc0_scratch4 hc c w >>= k) Q) := by
  rw [k0_part15_eq_skeleton]; unfold k0_part15_skel
  simp only [Prog.lift, Prog.bind_op, Prog.bind_ret, Prog.pure_eq_ret, Prog.bind_assoc]
  iintro ⟨#HK, Hf, Hr, Ho, HO⟩ Hk
  iapply (wp_waitRecv A K c 9 rfl l hl (m := 12) (m' := 13) (by decide) (by decide) rfl) $$ [Hf HO]
  · iframe; iexact HK
  iintro ⟨Hf, Hr', HO⟩
  iapply (wp_loadSlot c) $$ Hr; iintro Hr
  iapply (wp_putOut c (half true (src true c)) ((pay20_eq _).trans (resBlk_half A true (src true c)).symm) (out3_0 c)) $$ Ho; iintro Ho
  iapply (wp_loadSlot c) $$ Hr'; iintro Hr'
  iapply Hk; iframe

/-- The half block from the right neighbour into the result; transfers 4 and 10 start. -/
theorem wp_part16 {S : Finset (Fin 8)} {w w' w'' : BitVec 32} (l : List (Fin 12)) {k : PUnit → Prog (TpuEff nD τ sig (Elt F) Λ₀ .tc) α} :
    iprop(known A K ∗ came A c 3 5 ∗ came A c 9 13 ∗ outPts c a5 (resBlk A) S ∗ idle c 4 ∗ idle c 10 ∗ free (dst true c) 6 ∗ free (dst false c) 14
        ∗ owing c (owed c (4 :: 10 :: l)))
      ⊢ iprop((iprop(flying c 4 ∗ flying c 10 ∗ outPts c a5 (resBlk A) (insert (half false (src false c)) S) ∗ owing c (owed c l)) -∗ WP c (k ⟨⟩) Q)
        -∗ WP c (k0_part16 i a1 h1 a2 h2 a3 h3 a4 h4 a5 h5 a6 h6 accM h7 comm h8 cc0_scratch3 cc0_scratch4 hc c w w' w'' (k0_pay21 (got A c 9)) >>= k) Q) := by
  rw [k0_part16_eq_skeleton]; unfold k0_part16_skel
  simp only [Prog.lift, Prog.bind_op, Prog.bind_ret, Prog.pure_eq_ret, Prog.bind_assoc]
  iintro ⟨#HK, Hr, Hr', Ho, Hi, Hi', Hd, Hd', HO⟩ Hk
  iapply (wp_putOut c (half false (src false c)) ((pay21_eq _).trans (resBlk_half A false (src false c)).symm) (out4_0 c)) $$ Ho; iintro Ho
  iapply (wp_send A K c 4 (n := ⟨k0_dev11 c, _⟩) (Fin.ext (to11 c)) rfl (k := 5) (k' := 6) (by decide) (by decide) rfl rfl rfl rfl (10 :: l) (X := got A c 3) rfl) $$ [Hi Hr Hd HO]
  · iframe; iexact HK
  iintro ⟨Hf, HO⟩
  iapply (wp_send A K c 10 (n := ⟨k0_dev12 c, _⟩) (Fin.ext (to12 c)) rfl (k := 13) (k' := 14) (by decide) (by decide) rfl rfl rfl rfl l (X := got A c 9) rfl) $$ [Hi' Hr' Hd' HO]
  · iframe; iexact HK
  iintro ⟨Hf', HO⟩
  iapply Hk; iframe

/-- Transfers 4 and 10 end. -/
theorem wp_part17 {w w' : BitVec 32} (l : List (Fin 12)) (hl : ∀ i ∈ l, (4 : Fin 12).val % 6 < i.val % 6)
    {k : PUnit → Prog (TpuEff nD τ sig (Elt F) Λ₀ .tc) α} :
    iprop(known A K ∗ flying c 4 ∗ flying c 10 ∗ owing c (owed c l))
      ⊢ iprop((iprop(ended c 4 ∗ ended c 10 ∗ mine A c 4 5 ∗ came A c 4 6 ∗ mine A c 10 13 ∗ came A c 10 14 ∗ owing c (owed c l)) -∗ WP c (k ⟨⟩) Q)
        -∗ WP c (k0_part17 i a1 h1 a2 h2 a3 h3 a4 h4 a5 h5 a6 h6 accM h7 comm h8 cc0_scratch3 cc0_scratch4 w w' >>= k) Q) := by
  rw [k0_part17_eq_skeleton]; unfold k0_part17_skel
  simp only [Prog.lift, Prog.bind_op, Prog.bind_ret, Prog.pure_eq_ret, Prog.bind_assoc]
  iintro ⟨#HK, Hf, Hf', HO⟩ Hk
  iapply (wp_waitBoth A K c 4 rfl rfl l hl (m := 5) (m' := 6) (by decide) (by decide) rfl rfl) $$ [Hf HO]
  · iframe; iexact HK
  iintro ⟨Hf, Hs, Hr, HO⟩
  iapply (wp_waitBoth A K c 10 rfl rfl l hl (m := 13) (m' := 14) (by decide) (by decide) rfl rfl) $$ [Hf' HO]
  · iframe; iexact HK
  iintro ⟨Hf', Hs', Hr', HO⟩
  iapply Hk; iframe

/-- The second half block from the left into the result. -/
theorem wp_part18 {S : Finset (Fin 8)} {w : BitVec 32} {k : (Σ' (v555 : FVec F S192x1536 .bf16), BitVec 32) → Prog (TpuEff nD τ sig (Elt F) Λ₀ .tc) α} :
    iprop(came A c 4 6 ∗ came A c 10 14 ∗ outPts c a5 (resBlk A) S)
      ⊢ iprop((∀ w₁, iprop(came A c 4 6 ∗ came A c 10 14 ∗ outPts c a5 (resBlk A) (insert (half true (src true (src true c))) S))
          -∗ WP c (k ⟨k0_pay23 (got A c 10), w₁⟩) Q)
        -∗ WP c (k0_part18 i a1 h1 a2 h2 a3 h3 a4 h4 a5 h5 a6 h6 accM h7 comm h8 cc0_scratch3 cc0_scratch4 hc c w >>= k) Q) := by
  rw [k0_part18_eq_skeleton]; unfold k0_part18_skel
  simp only [Prog.lift, Prog.bind_op, Prog.bind_ret, Prog.pure_eq_ret, Prog.bind_assoc]
  iintro ⟨Hr, Hr', Ho⟩ Hk
  iapply (wp_loadSlot c) $$ Hr; iintro Hr
  iapply (wp_putOut c (half true (src true (src true c))) ((pay22_eq _).trans (resBlk_half A true (src true (src true c))).symm) (out3_1 c)) $$ Ho; iintro Ho
  iapply (wp_loadSlot c) $$ Hr'; iintro Hr'
  iapply Hk; iframe

/-- The second half block from the right into the result; transfers 5 and 11 start. -/
theorem wp_part19 {S : Finset (Fin 8)} {w w' w'' : BitVec 32} (l : List (Fin 12)) {k : PUnit → Prog (TpuEff nD τ sig (Elt F) Λ₀ .tc) α} :
    iprop(known A K ∗ came A c 4 6 ∗ came A c 10 14 ∗ outPts c a5 (resBlk A) S ∗ idle c 5 ∗ idle c 11 ∗ free (dst true c) 7 ∗ free (dst false c) 15
        ∗ owing c (owed c (5 :: 11 :: l)))
      ⊢ iprop((iprop(flying c 5 ∗ flying c 11 ∗ outPts c a5 (resBlk A) (insert (half false (src false (src false c))) S) ∗ owing c (owed c l)) -∗ WP c (k ⟨⟩) Q)
        -∗ WP c (k0_part19 i a1 h1 a2 h2 a3 h3 a4 h4 a5 h5 a6 h6 accM h7 comm h8 cc0_scratch3 cc0_scratch4 hc c w w' (k0_pay23 (got A c 10)) w'' >>= k) Q) := by
  rw [k0_part19_eq_skeleton]; unfold k0_part19_skel
  simp only [Prog.lift, Prog.bind_op, Prog.bind_ret, Prog.pure_eq_ret, Prog.bind_assoc]
  iintro ⟨#HK, Hr, Hr', Ho, Hi, Hi', Hd, Hd', HO⟩ Hk
  iapply (wp_putOut c (half false (src false (src false c))) ((pay23_eq _).trans (resBlk_half A false (src false (src false c))).symm) (out4_1 c)) $$ Ho; iintro Ho
  iapply (wp_send A K c 5 (n := ⟨k0_dev13 c, _⟩) (Fin.ext (to13 c)) rfl (k := 6) (k' := 7) (by decide) (by decide) rfl rfl rfl rfl (11 :: l) (X := got A c 4) rfl) $$ [Hi Hr Hd HO]
  · iframe; iexact HK
  iintro ⟨Hf, HO⟩
  iapply (wp_send A K c 11 (n := ⟨k0_dev14 c, _⟩) (Fin.ext (to14 c)) rfl (k := 14) (k' := 15) (by decide) (by decide) rfl rfl rfl rfl l (X := got A c 10) rfl) $$ [Hi' Hr' Hd' HO]
  · iframe; iexact HK
  iintro ⟨Hf', HO⟩
  iapply Hk; iframe

/-- Transfers 5 and 11 end. -/
theorem wp_part20 {w w' w'' : BitVec 32} (l : List (Fin 12)) (hl : ∀ i ∈ l, (5 : Fin 12).val % 6 < i.val % 6)
    {k : BitVec 32 → Prog (TpuEff nD τ sig (Elt F) Λ₀ .tc) α} :
    iprop(known A K ∗ flying c 5 ∗ flying c 11 ∗ owing c (owed c l))
      ⊢ iprop((∀ w₁, iprop(ended c 5 ∗ ended c 11 ∗ mine A c 5 6 ∗ came A c 5 7 ∗ mine A c 11 14 ∗ came A c 11 15 ∗ owing c (owed c l)) -∗ WP c (k w₁) Q)
        -∗ WP c (k0_part20 i a1 h1 a2 h2 a3 h3 a4 h4 a5 h5 a6 h6 accM h7 comm h8 cc0_scratch3 cc0_scratch4 w w' w'' >>= k) Q) := by
  rw [k0_part20_eq_skeleton]; unfold k0_part20_skel
  simp only [Prog.lift, Prog.bind_op, Prog.bind_ret, Prog.pure_eq_ret, Prog.bind_assoc]
  iintro ⟨#HK, Hf, Hf', HO⟩ Hk
  iapply (wp_waitBoth A K c 5 rfl rfl l hl (m := 6) (m' := 7) (by decide) (by decide) rfl rfl) $$ [Hf HO]
  · iframe; iexact HK
  iintro ⟨Hf, Hs, Hr, HO⟩
  iapply (wp_waitBoth A K c 11 rfl rfl l hl (m := 14) (m' := 15) (by decide) (by decide) rfl rfl) $$ [Hf' HO]
  · iframe; iexact HK
  iintro ⟨Hf', Hs', Hr', HO⟩
  iapply Hk; iframe

/-- The third half block from the left into the result. -/
theorem wp_part21 {S : Finset (Fin 8)} {w w' : BitVec 32} {k : (Σ' (v639 : FVec F S192x1536 .bf16), BitVec 32) → Prog (TpuEff nD τ sig (Elt F) Λ₀ .tc) α} :
    iprop(came A c 5 7 ∗ came A c 11 15 ∗ outPts c a5 (resBlk A) S)
      ⊢ iprop((∀ w₁, iprop(came A c 5 7 ∗ came A c 11 15 ∗ outPts c a5 (resBlk A) (insert (half true (src true (src true (src true c)))) S))
          -∗ WP c (k ⟨k0_pay25 (got A c 11), w₁⟩) Q)
        -∗ WP c (k0_part21 i a1 h1 a2 h2 a3 h3 a4 h4 a5 h5 a6 h6 accM h7 comm h8 cc0_scratch3 cc0_scratch4 hc c w w' >>= k) Q) := by
  rw [k0_part21_eq_skeleton]; unfold k0_part21_skel
  simp only [Prog.lift, Prog.bind_op, Prog.bind_ret, Prog.pure_eq_ret, Prog.bind_assoc]
  iintro ⟨Hr, Hr', Ho⟩ Hk
  iapply (wp_loadSlot c) $$ Hr; iintro Hr
  iapply (wp_putOut c (half true (src true (src true (src true c)))) ((pay24_eq _).trans (resBlk_half A true (src true (src true (src true c)))).symm) (out3_2 c)) $$ Ho; iintro Ho
  iapply (wp_loadSlot c) $$ Hr'; iintro Hr'
  iapply Hk; iframe

end Cert.RingProof

end
-- ==== Proof.Around.lean ====
/-
What a device holds before the ring and after it, and its communication buffer cut into the slots that
the ring's parts take and put together again.
-/
module

public import proofs.«01_k».proof.Proof.Gather

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

/-- What a device needs to enter the ring: what all know, the two units it will signal, its position at the barrier, the two
units it will wait for, and its twelve transfers not started. -/
def start (A : Dev nD → FVec F S1536x1536 .f32) (c : Dev nD) : sProp 𝕄 :=
  iprop(∃ K, known A K ∗ dutyTok ER (cell (dst false c) none) 0 true ∗ dutyTok ER (cell (dst true c) none) 0 false
    ∗ atPos ER (cell c none) 0 ∅ 0 ∗ cred (tallyAt (cell c none) () 2) ∗ bigSep Finset.univ fun j : Fin 12 => idle (F := F) c j)

/-- The ring's semaphores of a device, all at zero. -/
def done (c : Dev nD) : sProp 𝕄 := iprop(semVal (cell c none) 0 ∗ bigSep Finset.univ fun j : Fin 12 => ended (F := F) c j)

/-- Device `c` holds its communication buffer. -/
def commAny (c : Dev nD) : sProp 𝕄 := iprop(∃ f : Buf (Elt F) (commL c), (commL c) ↦{fullShare} f)

theorem bigSep_fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem slots_eq (c : Dev nD) : (bigSep Finset.univ fun k : Fin 16 => slotAny (F := F) c k.val k.isLt)
    = iprop(free c 0 ∗ free c 1 ∗ free c 2 ∗ free c 3 ∗ free c 4 ∗ free c 5 ∗ free c 6 ∗ free c 7 ∗ free c 8 ∗ free c 9 ∗ free c 10 ∗ free c 11
      ∗ free c 12 ∗ free c 13 ∗ free c 14 ∗ free c 15) :=
  bigSep_univ_eq_bigSepL [0, 1, 2, 3, 4, 5, 6, 7, 8, 9, 10, 11, 12, 13, 14, 15] (by decide) (by decide) _

/-- The eight half blocks that a device writes are all half blocks. -/
theorem half_all : ∀ (c : Dev nD) (b : Fin 8), b ∈ insert (half false (src false (src false (src false c)))) (insert (half true (src true (src true (src true c))))
    (insert (half false (src false (src false c))) (insert (half true (src true (src true c))) (insert (half false (src false c))
    (insert (half true (src true c)) (insert (half false c) (insert (half true c) (∅ : Finset (Fin 8))))))))) := by decide

theorem landing_true (c : Dev nD) : landing (F := F) c true = iprop(free c 1 ∗ free c 2 ∗ free c 3 ∗ free c 5 ∗ free c 6 ∗ free c 7) := rfl
theorem landing_false (c : Dev nD) : landing (F := F) c false = iprop(free c 9 ∗ free c 10 ∗ free c 11 ∗ free c 13 ∗ free c 14 ∗ free c 15) := rfl

/-- The communication buffer cut: the landing slots of either direction, and the four others. -/
theorem comm_cut (c : Dev nD) : commAny (F := F) c ⊢ iprop(landing c true ∗ landing c false ∗ free c 0 ∗ free c 4 ∗ free c 8 ∗ free c 12) := by
  unfold commAny
  rw [landing_true, landing_false]
  iintro ⟨%f, H⟩
  ihave H := (comm_split c f) $$ H
  ihave H := (Entails.of_eq (slots_eq (F := F) c)) $$ H
  icases H with ⟨H0, H1, H2, H3, H4, H5, H6, H7, H8, H9, H10, H11, H12, H13, H14, H15⟩
  iframe

/-- The sixteen slots put together again, whatever they hold. -/
theorem comm_glue (c : Dev nD) {X₀ X₁ X₂ X₃ X₄ X₅ X₆ X₇ X₈ X₉ X₁₀ X₁₁ X₁₂ X₁₃ X₁₄ X₁₅ : FVec F S1x192x1536 .bf16} :
    iprop(slot c 0 (by decide) X₀ ∗ slot c 1 (by decide) X₁ ∗ slot c 2 (by decide) X₂ ∗ slot c 3 (by decide) X₃ ∗ slot c 4 (by decide) X₄ ∗ slot c 5 (by decide) X₅
      ∗ slot c 6 (by decide) X₆ ∗ slot c 7 (by decide) X₇ ∗ slot c 8 (by decide) X₈ ∗ slot c 9 (by decide) X₉ ∗ slot c 10 (by decide) X₁₀ ∗ slot c 11 (by decide) X₁₁
      ∗ slot c 12 (by decide) X₁₂ ∗ slot c 13 (by decide) X₁₃ ∗ slot c 14 (by decide) X₁₄ ∗ slot c 15 (by decide) X₁₅) ⊢ commAny (F := F) c := by
  have h : ∀ {k : ℕ} {hk : k < 16} {X : FVec F S1x192x1536 .bf16}, slot c k hk X ⊢ slotAny (F := F) c k hk := slotAny_intro c _ _ _
  unfold commAny
  refine BIBase.Entails.trans ?_ (comm_join c)
  refine BIBase.Entails.trans ?_ (Entails.of_eq (slots_eq (F := F) c).symm)
  iterate 15 refine BIClass.sep_mono h ?_
  exact h

end Cert.RingProof

end
-- ==== Proof.Body.lean ====
/-
The kernel's body, run once: at the first point it fills the copy of the input and clears the
accumulator, at every point it adds one chunk's product to the accumulator, and at the last point it
runs the ring.
-/
module

public import proofs.«01_k».proof.Proof.Around

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

/-! ## Loads and stores of a whole array -/

/-- Device `c` holds the array `X`. -/
abbrev has (c : Dev nD) {sp : Space} {s : Shape} {e : EltTy} (m : Memref sig .tc sp s e) (X : s.Idx → Elt F e) : sProp 𝕄 :=
  owns (c : Thread nD τ) m fullShare X

theorem read_all {cs : CoreSpace} {s : Shape} {e : EltTy} (m : Memref sig .tc cs s e) {off : Fin s.rank → ℕ} (hoff : off = fun _ => 0)
    (inb : ∀ a, off a + s.size a ≤ s.size a) (f : m.view.ty.Contents (Elt F)) :
    (m.access (Rect.unit off s.size inb)).read (Elt F) f = m.view.read (Elt F) f := by
  subst hoff
  funext x
  show m.view.read (Elt F) f ((Rect.whole s).emb x) = _
  rw [Rect.emb_whole_apply]

theorem zero_off : (![0, 0] : Fin 2 → ℕ) = fun _ => 0 := by decide

/-- A load of a whole array. -/
theorem wp_loadAll (c : Dev nD) {α : Type} {Q : α → sProp 𝕄} {r₁ r₂ : ℕ} {e : EltTy} {m : Memref sig .tc .vmem ⟨2, ![r₁, r₂]⟩ e} {X : Shape.Idx ⟨2, ![r₁, r₂]⟩ → Elt F e}
    {inb : ∀ a, (![0, 0] : Fin 2 → ℕ) a + (![r₁, r₂] : Fin 2 → ℕ) a ≤ (![r₁, r₂] : Fin 2 → ℕ) a}
    {hl : m.view.LoadsAt (Rect.unit (s := ⟨2, ![r₁, r₂]⟩) ![0, 0] ![r₁, r₂] inb).toLoadRect}
    {K : (Shape.Idx ⟨2, ![r₁, r₂]⟩ → Elt F e) → Prog (TpuEff nD τ sig (Elt F) Λ₀ .tc) α} :
    has c m X ⊢ iprop((has c m X -∗ WP c (K X) Q) -∗ WP c (.op (.load m (Rect.unit (s := ⟨2, ![r₁, r₂]⟩) ![0, 0] ![r₁, r₂] inb).toLoadRect hl) K) Q) := by
  unfold has owns
  iintro ⟨%f, %hf, H⟩ HK
  have e := read_all (F := F) m zero_off inb f
  have hS : (m.access (Rect.unit (s := ⟨2, ![r₁, r₂]⟩) ![0, 0] ![r₁, r₂] inb)).set ⊆ m.view.set := View.set_slice_subset (v := m.view) _
  iapply (wp_load_rect 𝒱₀ (c : Thread nD τ) none Set.univ (m := m) (r := Rect.unit (s := ⟨2, ![r₁, r₂]⟩) ![0, 0] ![r₁, r₂] inb) (S := m.view.set) (f := f) hS) $$ H
  iintro H
  rw [e, hf]
  iapply HK
  iexists f
  isplitr; · ipureintro; exact hf
  iexact H

/-- A whole array is loaded, the value unused, and then stored. -/
theorem wp_putAll (c : Dev nD) {α : Type} {Q : α → sProp 𝕄} {r₁ r₂ : ℕ} {e : EltTy} {m : Memref sig .tc .vmem ⟨2, ![r₁, r₂]⟩ e} {X w : Shape.Idx ⟨2, ![r₁, r₂]⟩ → Elt F e}
    {inb : ∀ a, (![0, 0] : Fin 2 → ℕ) a + (![r₁, r₂] : Fin 2 → ℕ) a ≤ (![r₁, r₂] : Fin 2 → ℕ) a}
    {hl : m.view.LoadsAt (Rect.unit (s := ⟨2, ![r₁, r₂]⟩) ![0, 0] ![r₁, r₂] inb).toLoadRect}
    {hx : (m.access (Rect.unit (s := ⟨2, ![r₁, r₂]⟩) ![0, 0] ![r₁, r₂] inb)).Stores Finset.univ}
    {hm : Finset.univ = (Finset.univ : Finset (Rect.unit (s := ⟨2, ![r₁, r₂]⟩) ![0, 0] ![r₁, r₂] inb).shape.Idx)
      ∨ ∀ a, (Rect.unit (s := ⟨2, ![r₁, r₂]⟩) ![0, 0] ![r₁, r₂] inb).stride a = 1}
    {K : PUnit → Prog (TpuEff nD τ sig (Elt F) Λ₀ .tc) α} :
    has c m X ⊢ iprop((has c m w -∗ WP c (K ⟨⟩) Q)
      -∗ WP c (.op (.load m (Rect.unit (s := ⟨2, ![r₁, r₂]⟩) ![0, 0] ![r₁, r₂] inb).toLoadRect hl) fun _ =>
          .op (.store m (Rect.unit (s := ⟨2, ![r₁, r₂]⟩) ![0, 0] ![r₁, r₂] inb) w Finset.univ hx hm) K) Q) := by
  iintro H HK
  iapply (wp_loadAll c) $$ H; iintro H
  unfold has owns
  icases H with ⟨%f, -, H⟩
  have hS : (m.access (Rect.unit (s := ⟨2, ![r₁, r₂]⟩) ![0, 0] ![r₁, r₂] inb)).setOn Finset.univ ⊆ m.view.set := View.set_slice_subset (v := m.view) _
  iapply (wp_store 𝒱₀ (c : Thread nD τ) none Set.univ (m := m) (r := Rect.unit (s := ⟨2, ![r₁, r₂]⟩) ![0, 0] ![r₁, r₂] inb) (Mk := Finset.univ) (S := m.view.set) (f := f) hS) $$ H
  iintro H
  iapply HK
  iexists _
  isplitr
  rotate_left
  · iexact H
  · ipureintro
    exact (read_all m zero_off inb _).symm.trans (View.read_write_univ (v := m.access (Rect.unit (s := ⟨2, ![r₁, r₂]⟩) ![0, 0] ![r₁, r₂] inb)) f w)

/-- The accumulator as the ring's parts hold it. -/
theorem accPts_eq (A : Dev nD → FVec F S1536x1536 .f32) (c : Dev nD) : has c accM (A c) = accPts A c :=
  owns_whole (Val := Elt F) (Ix := Unit) (Name := ℕ) (U := Alg) (Lvl := ℕ) (c : Thread nD τ) cc0_scratch1 fullShare (A c : Buf (Elt F) (accL c))

/-! ## The three kinds of points -/

/-- The guard of the first point. -/
abbrev atFirst (i : grid0.Coords) : Prop := Scalar.cmpi .ne (Scalar.extui (Scalar.cmpi .eq (BitVec.ofNat 32 (i 0).val) 0#32) : BitVec 32) 0#32 = 1#1

variable (A : Dev nD → FVec F S1536x1536 .f32) (K : Dev nD × Site → ℕ) (c : Dev nD)
  (i : grid0.Coords) (a1 : Memref sig .tc .vmem S1536x1536 .bf16) (h1 : a1.IsWhole) (a2 : Memref sig .tc .vmem S1536x256 .bf16) (h2 : a2.IsWhole)
  (a3 : Memref sig .tc .vmem S1536x256 .bf16) (h3 : a3.IsWhole) (a4 : Memref sig .tc .vmem S256x1536 .bf16) (h4 : a4.IsWhole)
  (a5 : Memref sig .tc .vmem S1536x1536 .bf16) (h5 : a5.IsWhole) (a6 : Memref sig .tc .vmem S1536x1536 .bf16) (h6 : a6.IsWhole)
  (h7 : accM.IsWhole) (h8 : comm.IsWhole)
  (x y : FVec F S1536x1536 .bf16) (g u : FVec F S1536x256 .bf16) (d : FVec F S256x1536 .bf16) (B : FVec F S1536x1536 .f32)
  {Q : PUnit → sProp (MT nD τ sig Unit (Elt F) ℕ Alg ℕ)}

/-- A chunk's product is added to the accumulator. -/
theorem wp_add {i₁ i₂ i₃ i₄} {i₅ : ∀ a, (![0, 0] : Fin 2 → ℕ) a + (![1536, 1536] : Fin 2 → ℕ) a ≤ S1536x1536.size a} {l₁ l₂ l₃ l₄ l₅ l₆}
    {s₁ : (accM.access (Rect.unit (s := S1536x1536) ![0, 0] ![1536, 1536] i₅)).Stores Finset.univ}
    {s₂ : Finset.univ = (Finset.univ : Finset (Rect.unit (s := S1536x1536) ![0, 0] ![1536, 1536] i₅).shape.Idx)
      ∨ ∀ a, (Rect.unit (s := S1536x1536) ![0, 0] ![1536, 1536] i₅).stride a = 1} {k : PUnit → Prog (TpuEff nD τ sig (Elt F) Λ₀ .tc) PUnit} :
    iprop(has c a6 x ∗ has c a2 g ∗ has c a3 u ∗ has c a4 d ∗ has c accM B)
      ⊢ iprop((iprop(has c a6 x ∗ has c a2 g ∗ has c a3 u ∗ has c a4 d ∗ has c accM (k0_pay3 x g u d B)) -∗ WP c (k ⟨⟩) Q)
        -∗ WP c (.op (.load a6 (Rect.unit ![0, 0] ![1536, 1536] i₁).toLoadRect l₁) fun v3 =>
          .op (.load a2 (Rect.unit ![0, 0] ![1536, 256] i₂).toLoadRect l₂) fun v4 =>
          .op (.load a3 (Rect.unit ![0, 0] ![1536, 256] i₃).toLoadRect l₃) fun v6 =>
          .op (.load a4 (Rect.unit ![0, 0] ![256, 1536] i₄).toLoadRect l₄) fun v8 =>
          .op (.load accM (Rect.unit (s := S1536x1536) ![0, 0] ![1536, 1536] i₅).toLoadRect l₅) fun v17 =>
          .op (.load accM (Rect.unit (s := S1536x1536) ![0, 0] ![1536, 1536] i₅).toLoadRect l₆) fun _ =>
          .op (.store accM (Rect.unit (s := S1536x1536) ![0, 0] ![1536, 1536] i₅) (k0_pay3 v3 v4 v6 v8 v17) Finset.univ s₁ s₂) k) Q) := by
  iintro ⟨H6, H2, H3, H4, Ha⟩ Hk
  iapply (wp_loadAll c) $$ H6; iintro H6
  iapply (wp_loadAll c) $$ H2; iintro H2
  iapply (wp_loadAll c) $$ H3; iintro H3
  iapply (wp_loadAll c) $$ H4; iintro H4
  iapply (wp_loadAll c) $$ Ha; iintro Ha
  iapply (wp_putAll c) $$ Ha; iintro Ha
  iapply Hk; iframe

/-- The end of a program. -/
theorem wp_end {α : Type} {P : α → sProp (MT nD τ sig Unit (Elt F) ℕ Alg ℕ)} (a : α) : P a ⊢ WP c (.ret a) P := by
  unfold WP
  rw [wp_ret]
  iintro H
  imodintro
  iexact H

/-- The first point. -/
theorem wp_first (hf : atFirst i) (hn : ¬ k0_cond2 i = 1#1) (z : FVec F S1536x1536 .bf16) :
    iprop(has c a1 x ∗ has c a2 g ∗ has c a3 u ∗ has c a4 d ∗ has c a6 z ∗ has c accM B)
      ⊢ iprop((iprop(has c a1 x ∗ has c a2 g ∗ has c a3 u ∗ has c a4 d ∗ has c a6 (k0_pay1 x) ∗ has c accM (k0_pay3 (k0_pay1 x) g u d k0_pay2)) -∗ Q ⟨⟩)
        -∗ WP c (cc0_body i a1 h1 a2 h2 a3 h3 a4 h4 a5 h5 a6 h6 accM h7 comm h8 cc0_scratch3 cc0_scratch4) Q) := by
  rw [cc0_body_eq_skeleton]; unfold cc0_body_skel
  simp only [Prog.lift, Prog.bind_op, Prog.bind_ret, Prog.pure_eq_ret, Prog.bind_assoc]
  rw [dif_pos hf]
  iintro ⟨H1, H2, H3, H4, H6, Ha⟩ Hk
  iapply (wp_loadAll c) $$ H1; iintro H1
  iapply (wp_putAll c) $$ H6; iintro H6
  iapply (wp_putAll c) $$ Ha; iintro Ha
  iapply (wp_add c a2 a3 a4 a6) $$ [H2 H3 H4 H6 Ha]
  · iframe
  iintro ⟨H6, H2, H3, H4, Ha⟩
  rw [dif_neg hn]
  iapply (wp_end c)
  iapply Hk; iframe

/-- A point between the first and the last. -/
theorem wp_mid (hf : ¬ atFirst i) (hn : ¬ k0_cond2 i = 1#1) :
    iprop(has c a2 g ∗ has c a3 u ∗ has c a4 d ∗ has c a6 x ∗ has c accM B)
      ⊢ iprop((iprop(has c a2 g ∗ has c a3 u ∗ has c a4 d ∗ has c a6 x ∗ has c accM (k0_pay3 x g u d B)) -∗ Q ⟨⟩)
        -∗ WP c (cc0_body i a1 h1 a2 h2 a3 h3 a4 h4 a5 h5 a6 h6 accM h7 comm h8 cc0_scratch3 cc0_scratch4) Q) := by
  rw [cc0_body_eq_skeleton]; unfold cc0_body_skel
  simp only [Prog.lift, Prog.bind_op, Prog.bind_ret, Prog.pure_eq_ret, Prog.bind_assoc]
  rw [dif_neg hf]
  iintro ⟨H2, H3, H4, H6, Ha⟩ Hk
  iapply (wp_add c a2 a3 a4 a6) $$ [H2 H3 H4 H6 Ha]
  · iframe
  iintro ⟨H6, H2, H3, H4, Ha⟩
  rw [dif_neg hn]
  iapply (wp_end c)
  iapply Hk; iframe

/-- The last point: the last product, and then the ring. -/
theorem wp_last (hf : ¬ atFirst i) (hc : k0_cond2 i = 1#1) (hA : k0_pay3 x g u d B = A c) :
    iprop(has c a2 g ∗ has c a3 u ∗ has c a4 d ∗ has c a6 x ∗ has c accM B ∗ has c a5 y ∗ commAny c ∗ start A c ∗ owing c (owedStart c))
      ⊢ iprop((iprop(has c a2 g ∗ has c a3 u ∗ has c a4 d ∗ has c a6 x ∗ has c accM (A c) ∗ has c a5 (glue (resBlk A)) ∗ commAny c ∗ done c ∗ owing c 0) -∗ Q ⟨⟩)
        -∗ WP c (cc0_body i a1 h1 a2 h2 a3 h3 a4 h4 a5 h5 a6 h6 accM h7 comm h8 cc0_scratch3 cc0_scratch4) Q) := by
  rw [cc0_body_eq_skeleton]; unfold cc0_body_skel
  simp only [Prog.lift, Prog.bind_op, Prog.bind_ret, Prog.pure_eq_ret, Prog.bind_assoc]
  rw [dif_neg hf]
  iintro ⟨H2, H3, H4, H6, Ha, Ho, Hcomm, Hstart, HO⟩ Hk
  iapply (wp_add c a2 a3 a4 a6) $$ [H2 H3 H4 H6 Ha]
  · iframe
  iintro ⟨H6, H2, H3, H4, Ha⟩
  rw [dif_pos hc]
  ihave Ha := (Entails.of_eq ((congrArg (has c accM) hA).trans (accPts_eq A c))) $$ Ha
  ihave Ho := (outPts_none c a5 (resBlk A) y) $$ Ho
  ihave Hcomm := (comm_cut c) $$ Hcomm
  icases Hcomm with ⟨Hl₁, Hl₂, S0, S4, S8, S12⟩
  unfold start
  icases Hstart with ⟨%K, #HK, Ht₁, Ht₂, Hat, Hc, Hi⟩
  ihave Hi := (Entails.of_eq (bigSep_fin12 _)) $$ Hi
  icases Hi with ⟨I0, I1, I2, I3, I4, I5, I6, I7, I8, I9, I10, I11⟩
  unfold owedStart order
  iapply (wp_part1 A K c [0, 6, 1, 7, 2, 8, 3, 9, 4, 10, 5, 11]) $$ [Ht₁ Ht₂ Hl₁ Hl₂ Hat Hc HO]
  · iframe; iexact HK
  iintro %_ %_ %_ ⟨HO, Hbar, Hl₁, Hl₂⟩
  ihave Hl₁ := (Entails.of_eq (landing_true _)) $$ Hl₁
  ihave Hl₂ := (Entails.of_eq (landing_false _)) $$ Hl₂
  icases Hl₁ with ⟨R1, R2, R3, R5, R6, R7⟩
  icases Hl₂ with ⟨L1, L2, L3, L5, L6, L7⟩
  dsimp only
  iapply (wp_part2 A c) $$ [Ha S0]
  · iframe
  iintro ⟨Ha, S0⟩
  iapply (wp_part3 A K c [1, 7, 2, 8, 3, 9, 4, 10, 5, 11]) $$ [S0 S8 I0 I6 R1 L1 HO]
  · iframe; iexact HK
  iintro ⟨I0, I6, HO⟩
  iapply (wp_part4 A K c [1, 7, 2, 8, 3, 9, 4, 10, 5, 11] (by decide)) $$ [I0 I6 HO]
  · iframe; iexact HK
  iintro %_ ⟨I0, I6, S0, S1, S8, S9, HO⟩
  iapply (wp_part5 A c) $$ [Ha S1 S9]
  · iframe
  iintro %_ ⟨Ha, S1, S9⟩
  dsimp only
  ihave S0 := (slotAny_intro c 0 _ _) $$ S0
  ihave S8 := (slotAny_intro c 8 _ _) $$ S8
  iapply (wp_part6 A K c [7, 2, 8, 3, 9, 4, 10, 5, 11]) $$ [Ha S0 S8 I1 R2 HO]
  · iframe; iexact HK
  iintro ⟨Ha, I1, S8, HO⟩
  iapply (wp_part7 A K c [2, 8, 3, 9, 4, 10, 5, 11] (by decide)) $$ [I1 S8 I7 L2 HO]
  · iframe; iexact HK
  iintro %_ ⟨I1, I7, S0, S2, S8, HO⟩
  iapply (wp_part8 A K c [2, 8, 3, 9, 4, 10, 5, 11] (by decide)) $$ [I7 S2 HO]
  · iframe; iexact HK
  iintro %_ %_ ⟨I7, S2, S10, HO⟩
  dsimp only
  ihave S0 := (slotAny_intro c 0 _ _) $$ S0
  ihave S8 := (slotAny_intro c 8 _ _) $$ S8
  iapply (wp_part9 A K c [8, 3, 9, 4, 10, 5, 11]) $$ [Ha S10 S0 S8 I2 R3 HO]
  · iframe; iexact HK
  iintro ⟨Ha, I2, S8, S10, HO⟩
  iapply (wp_part10 A K c [3, 9, 4, 10, 5, 11] (by decide)) $$ [I2 S8 I8 L3 HO]
  · iframe; iexact HK
  iintro ⟨I2, I8, S0, S3, HO⟩
  iapply (wp_part11 A K c [3, 9, 4, 10, 5, 11] (by decide)) $$ [I8 HO]
  · iframe; iexact HK
  iintro %_ %_ %_ %_ %_ ⟨I8, S8, S11, HO⟩
  dsimp only
  iapply (wp_part12 A c) $$ [Ha S3 S11 Ho S4]
  · iframe
  iintro ⟨Ha, S3, S11, Ho, S4⟩
  dsimp only
  iapply (wp_part13 A K c [4, 10, 5, 11]) $$ [S4 S12 I3 I9 R5 L5 HO]
  · iframe; iexact HK
  iintro ⟨I3, I9, HO⟩
  iapply (wp_part14 A K c [4, 10, 5, 11] (by decide)) $$ [I3 I9 HO]
  · iframe; iexact HK
  iintro ⟨I3, I9, S4, S5, S12, HO⟩
  iapply (wp_part15 A K c [4, 10, 5, 11] (by decide)) $$ [I9 S5 Ho HO]
  · iframe; iexact HK
  iintro %_ ⟨I9, S5, S13, Ho, HO⟩
  dsimp only
  iapply (wp_part16 A K c [5, 11]) $$ [S5 S13 Ho I4 I10 R6 L6 HO]
  · iframe; iexact HK
  iintro ⟨I4, I10, Ho, HO⟩
  iapply (wp_part17 A K c [5, 11] (by decide)) $$ [I4 I10 HO]
  · iframe; iexact HK
  iintro ⟨I4, I10, S5, S6, S13, S14, HO⟩
  iapply (wp_part18 A c) $$ [S6 S14 Ho]
  · iframe
  iintro %_ ⟨S6, S14, Ho⟩
  dsimp only
  iapply (wp_part19 A K c []) $$ [S6 S14 Ho I5 I11 R7 L7 HO]
  · iframe; iexact HK
  iintro ⟨I5, I11, Ho, HO⟩
  iapply (wp_part20 A K c [] (by decide)) $$ [I5 I11 HO]
  · iframe; iexact HK
  iintro %_ ⟨I5, I11, S6, S7, S14, S15, HO⟩
  iapply (wp_part21 A c) $$ [S7 S15 Ho]
  · iframe
  iintro %_ ⟨S7, S15, Ho⟩
  dsimp only
  iapply (wp_putOut c (half false (src false (src false (src false c)))) ((pay25_eq _).trans (resBlk_half A false (src false (src false (src false c)))).symm)
    (out4_2 c)) $$ Ho
  iintro Ho
  ihave Ho := (outPts_all c a5 (resBlk A) _ (half_all c)) $$ Ho
  ihave Ha := (Entails.of_eq (accPts_eq A c).symm) $$ Ha
  ihave Hcomm := (comm_glue c) $$ [S0 S1 S2 S3 S4 S5 S6 S7 S8 S9 S10 S11 S12 S13 S14 S15]
  · iframe
  iapply (wp_end c)
  iapply Hk
  unfold done
  ihave Hi := (Entails.of_eq (bigSep_fin12 fun j => ended (F := F) c j).symm) $$ [I0 I1 I2 I3 I4 I5 I6 I7 I8 I9 I10 I11]
  · iframe
  iframe
  iexact HO

end Cert.RingProof

end
-- ==== Proof.Data.lean ====
/-
The contract of the twelve points: the accumulator after each chunk, what the buffers hold between two
points, what each point leaves in its windows, and the body meeting it.
-/
module

public import proofs.«01_k».proof.Proof.Body
public import proofs.«01_k».proof.Proof.Gen.KernelIdeal.Frame

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Alg ℕ

variable (m : (ℓ : Loc nD τ sig) → Buf (Elt F) ℓ) (c : Dev nD)

/-- The first point. -/
abbrev t0 : Fin cfg0.N := ⟨0, by decide⟩

/-- The copy of the input that the first point makes. -/
def xOf : FVec F S1536x1536 .bf16 := k0_pay1 (iblk m c 0 t0)

/-- A chunk's product added to `B`. -/
def addChunk (t : Fin cfg0.N) (B : FVec F S1536x1536 .f32) : FVec F S1536x1536 .f32 :=
  k0_pay3 (xOf m c) (iblk m c 1 t) (iblk m c 2 t) (iblk m c 3 t) B

/-- The accumulator after `n` chunks. -/
def accAt : ℕ → FVec F S1536x1536 .f32
  | 0 => k0_pay2
  | n + 1 => if h : n < cfg0.N then addChunk m c ⟨n, h⟩ (accAt n) else accAt n

/-- Every device's accumulator after all chunks. -/
def accs (d : Dev nD) : FVec F S1536x1536 .f32 := accAt m d 12

theorem accAt_succ (t : Fin cfg0.N) : addChunk m c t (accAt m c t.val) = accAt m c (t.val + 1) := by
  have e : accAt m c (t.val + 1) = if h : t.val < cfg0.N then addChunk m c ⟨t.val, h⟩ (accAt m c t.val) else accAt m c t.val := by rw [accAt]
  exact (e.trans (dif_pos t.isLt)).symm

/-- The copy of the input. -/
abbrev xbf : Memref sig .tc .vmem S1536x1536 .bf16 := Memref.whole cc0_scratch0

/-- The buffers before the first point. -/
def atStart : sProp 𝕄 := iprop((∃ X, has c xbf X) ∗ (∃ B, has c accM B) ∗ commAny (F := F) c ∗ start (accs m) c)
/-- The buffers before point `n`, of those after the first. -/
def atMid (n : ℕ) : sProp 𝕄 := iprop(has c xbf (xOf m c) ∗ has c accM (accAt m c n) ∗ commAny (F := F) c ∗ start (accs m) c)
/-- The buffers at the end. -/
def atEnd : sProp 𝕄 := iprop((∃ X, has (F := F) c xbf X) ∗ (∃ B, has (F := F) c accM B) ∗ commAny (F := F) c ∗ done (F := F) c)

/-- What holds before point `n`. -/
def inv (n : ℕ) : sProp 𝕄 := if n = 0 then atStart m c else if n < 12 then atMid m c n else atEnd (F := F) c

/-- What a device owes before point `n`: all of the ring's dues until the last point is done. -/
def dues (n : ℕ) : CellTallies nD τ sig Unit := if n < 12 then owedStart c else 0

def dats (_ : Fin 1) (c : Dev nD) : Dat τ (Elt F) Unit ℕ Alg ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => glue (resBlk (accs m))
  Φ t := inv m c t.val
  q _ := fullShare
  owed t := dues c t.val

theorem before_in (t : Fin cfg0.N) (d) : (dats m 0 c).before 0 t d = iblk m c 0 t :=
  ((dats m 0 c).before_in_eq_fetched 0 rfl (fun _ => rfl) (fun _ _ _ => rfl) (fun _ => rfl) t d).trans rfl
theorem before_gate (t : Fin cfg0.N) (d) : (dats m 0 c).before 1 t d = iblk m c 1 t :=
  ((dats m 0 c).before_in_eq_fetched 1 rfl (fun _ => rfl) (fun _ _ _ => rfl) (fun _ => rfl) t d).trans rfl
theorem before_up (t : Fin cfg0.N) (d) : (dats m 0 c).before 2 t d = iblk m c 2 t :=
  ((dats m 0 c).before_in_eq_fetched 2 rfl (fun _ => rfl) (fun _ _ _ => rfl) (fun _ => rfl) t d).trans rfl
theorem before_down (t : Fin cfg0.N) (d) : (dats m 0 c).before 3 t d = iblk m c 3 t :=
  ((dats m 0 c).before_in_eq_fetched 3 rfl (fun _ => rfl) (fun _ _ _ => rfl) (fun _ => rfl) t d).trans rfl

theorem first_iff : ∀ t : Fin grid0.N, atFirst (grid0.coords t) ↔ t.val = 0 := by decide +kernel
theorem last_iff : ∀ t : Fin grid0.N, k0_cond2 (grid0.coords t) = 1#1 ↔ t.val = 11 := by decide +kernel
theorem flush_iff (t : Fin cfg0.N) : (cfg0.win 4).flush t = true ↔ t.val = 11 := by
  rw [flush0_4]; have : t.val < 12 := t.isLt; omega

/-- The windows at the start of a point, as the body finds them: the inputs' blocks, and the result's buffer. -/
def inputs (t : Fin cfg0.N) : sProp 𝕄 :=
  iprop(has c (st0_0 t) (iblk m c 0 t) ∗ has c (st0_1 t) (iblk m c 1 t) ∗ has c (st0_2 t) (iblk m c 2 t) ∗ has c (st0_3 t) (iblk m c 3 t))

/-- The result's buffer as the body leaves it: written at the last point only. -/
def output (t : Fin cfg0.N) : sProp 𝕄 :=
  if t.val = 11 then has c (st0_4 t) (glue (resBlk (accs m))) else iprop(∃ d, has c (st0_4 t) ((dats m 0 c).before 4 t d))

theorem output_eq (t : Fin cfg0.N) : output m c t =
    (match cfg0.idle 4 (cfg0.grid.coords t) with
      | true => match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t) : sProp 𝕄) := by
  unfold output
  have hi : cfg0.idle 4 (cfg0.grid.coords t) = !(k0_cond2 (grid0.coords t) == 1#1) := rfl
  by_cases h : t.val = 11
  · have e : (k0_cond2 (grid0.coords t) == 1#1) = true := beq_iff_eq.mpr ((last_iff t).mpr h)
    rw [if_pos h, hi, e]
    rfl
  · have e : (k0_cond2 (grid0.coords t) == 1#1) = false := beq_eq_false_iff_ne.mpr fun e => h ((last_iff t).mp e)
    have f : (cfg0.win 4).flush t = false := by
      cases hf : (cfg0.win 4).flush t
      · rfl
      · exact absurd ((flush_iff t).mp hf) h
    rw [if_neg h, hi, e, f]
    rfl

/-- The result's buffer as the body finds it. -/
def outBefore (t : Fin cfg0.N) : sProp 𝕄 := iprop(∃ d, has c (st0_4 t) ((dats m 0 c).before 4 t d))

/-- What the body is given at a point. -/
def given (t : Fin cfg0.N) : sProp 𝕄 := iprop(inv m c t.val ∗ owing (F := F) c (dues c t.val) ∗ inputs m c t ∗ outBefore m c t)
/-- What the body gives back. -/
def back (t : Fin cfg0.N) : sProp 𝕄 := iprop(inv m c (t.val + 1) ∗ owing (F := F) c (dues c (t.val + 1)) ∗ inputs m c t ∗ output m c t)

theorem inv_mid {n : ℕ} (h0 : n ≠ 0) (h : n < 12) : inv m c n = atMid m c n := (if_neg h0).trans (if_pos h)
theorem inv_end : inv m c (11 + 1) = atEnd (F := F) c := rfl
theorem dues_lt {n : ℕ} (h : n < 12) : dues c n = owedStart c := if_pos h
theorem dues_end : dues c (11 + 1) = 0 := rfl
theorem output_other {t : Fin cfg0.N} (h : t.val ≠ 11) : output m c t = outBefore m c t := if_neg h
theorem output_last {t : Fin cfg0.N} (h : t.val = 11) : output m c t = has c (st0_4 t) (glue (resBlk (accs m))) := if_pos h

theorem accAt_mid (t : Fin cfg0.N) :
    k0_pay3 (xOf m c) (iblk m c 1 t) (iblk m c 2 t) (iblk m c 3 t) (accAt m c t.val) = accAt m c (t.val + 1) := accAt_succ m c t

theorem body_first (t : Fin cfg0.N) (h : t.val = 0) : given m c t ⊢ WP c (bodyAt0 t) fun _ => back m c t := by
  have e : t = t0 := Fin.ext h
  subst e
  have hn : ¬ k0_cond2 (grid0.coords t0) = 1#1 := fun h => absurd ((last_iff t0).mp h) (by decide)
  have e₀ : given m c t0 = iprop(atStart m c ∗ owing (F := F) c (owedStart c) ∗ inputs m c t0 ∗ outBefore m c t0) := rfl
  have e₁ : back m c t0 = iprop(atMid m c 1 ∗ owing (F := F) c (owedStart c) ∗ inputs m c t0 ∗ outBefore m c t0) := by
    unfold back
    rw [output_other m c (show t0.val ≠ 11 by decide), inv_mid m c (show t0.val + 1 ≠ 0 by decide) (by decide), dues_lt c (show t0.val + 1 < 12 by decide)]
  rw [e₀, e₁]
  unfold atStart atMid inputs
  iintro ⟨⟨⟨%X, Hx⟩, ⟨%B, Ha⟩, Hcm, Hs⟩, HO, ⟨H0, H1, H2, H3⟩, Ho⟩
  iapply (wp_first c (grid0.coords t0) (st0_0 t0) _ (st0_1 t0) _ (st0_2 t0) _ (st0_3 t0) _ (st0_4 t0) _ xbf _ _ _ (iblk m c 0 t0) (iblk m c 1 t0) (iblk m c 2 t0) (iblk m c 3 t0) B
    ((first_iff t0).mpr rfl) hn X) $$ [Hx Ha H0 H1 H2 H3]
  · iframe
  iintro ⟨H0, H1, H2, H3, Hx, Ha⟩
  ihave Ha := (Entails.of_eq (congrArg (has c accM) (show k0_pay3 (k0_pay1 (iblk m c 0 t0)) (iblk m c 1 t0) (iblk m c 2 t0) (iblk m c 3 t0) k0_pay2 = accAt m c 1 from accAt_mid m c t0))) $$ Ha
  iframe
  iexact Hx

theorem body_mid (t : Fin cfg0.N) (h0 : t.val ≠ 0) (h : t.val < 11) : given m c t ⊢ WP c (bodyAt0 t) fun _ => back m c t := by
  have hf : ¬ atFirst (grid0.coords t) := fun h => h0 ((first_iff t).mp h)
  have hn : ¬ k0_cond2 (grid0.coords t) = 1#1 := fun e => absurd ((last_iff t).mp e) (by omega)
  unfold given back
  rw [inv_mid m c h0 (by omega), inv_mid m c (Nat.succ_ne_zero t.val) (by omega), dues_lt c (show t.val < 12 by omega),
    dues_lt c (show t.val + 1 < 12 by omega), output_other m c (by omega)]
  unfold atMid inputs
  iintro ⟨⟨Hx, Ha, Hcm, Hs⟩, HO, ⟨H0, H1, H2, H3⟩, Ho⟩
  iapply (wp_mid c (grid0.coords t) (st0_0 t) _ (st0_1 t) _ (st0_2 t) _ (st0_3 t) _ (st0_4 t) _ xbf _ _ _ (xOf m c) (iblk m c 1 t) (iblk m c 2 t) (iblk m c 3 t) (accAt m c t.val)
    hf hn) $$ [Hx Ha H1 H2 H3]
  · iframe
  iintro ⟨H1, H2, H3, Hx, Ha⟩
  ihave Ha := (Entails.of_eq (congrArg (has c accM) (accAt_mid m c t))) $$ Ha
  iframe

theorem body_last (t : Fin cfg0.N) (h : t.val = 11) : given m c t ⊢ WP c (bodyAt0 t) fun _ => back m c t := by
  have hf : ¬ atFirst (grid0.coords t) := fun e => absurd ((first_iff t).mp e) (by omega)
  have hA : k0_pay3 (xOf m c) (iblk m c 1 t) (iblk m c 2 t) (iblk m c 3 t) (accAt m c t.val) = accs m c := by
    rw [accAt_mid, h]; rfl
  unfold given back
  rw [inv_mid m c (show t.val ≠ 0 by omega) (by omega), dues_lt c (show t.val < 12 by omega), output_last m c h]
  rw [show inv m c (t.val + 1) = atEnd (F := F) c by rw [h]; rfl, show dues c (t.val + 1) = 0 by rw [h]; rfl]
  unfold atMid atEnd inputs outBefore
  iintro ⟨⟨Hx, Ha, Hcm, Hs⟩, HO, ⟨H0, H1, H2, H3⟩, ⟨%y, Ho⟩⟩
  iapply (wp_last (accs m) c (grid0.coords t) (st0_0 t) _ (st0_1 t) _ (st0_2 t) _ (st0_3 t) _ (st0_4 t) _ xbf _ _ _ (xOf m c) _ (iblk m c 1 t) (iblk m c 2 t) (iblk m c 3 t) (accAt m c t.val)
    hf ((last_iff t).mpr h) hA) $$ [Hx Ha H1 H2 H3 Ho Hcm Hs HO]
  · iframe
  iintro ⟨H1, H2, H3, Hx, Ha, Ho, Hcm, Hd, HO⟩
  iframe
  isplitl [Hx]
  · iexists _; iexact Hx
  · iexists _; iexact Ha

/-- The body meets its contract at every point. -/
theorem body_at (t : Fin cfg0.N) : given m c t ⊢ WP c (bodyAt0 t) fun _ => back m c t := by
  have ht : t.val < 12 := t.isLt
  by_cases h0 : t.val = 0
  · exact body_first m c t h0
  · by_cases h : t.val = 11
    · exact body_last m c t h
    · exact body_mid m c t h0 (by omega)

/-- The device's dues, as the contract gives them and as it takes them. -/
theorem owing_of (n : Fin (cfg0.N + 1)) : (dats m 0 c).owesAt () n ⊢ owing (F := F) c (dues c n.val) := by
  unfold Dat.owesAt Pipeline.owesWithin owing
  iintro ⟨%W, %hW, HO⟩
  iexists W; iexact HO
theorem owing_to (n : Fin (cfg0.N + 1)) : owing (F := F) c (dues c n.val) ⊢ (dats m 0 c).owesAt () n := by
  unfold Dat.owesAt Pipeline.owesWithin owing
  iintro ⟨%W, HO⟩
  iexists W
  isplitr
  · ipureintro; exact fun _ _ => Or.inl trivial
  iexact HO

/-- The body's contract, with its windows one by one. -/
theorem body_obligation (c : Dev nD) : BodyObligation (dats (F := F) m 0 c) (defs₀ (F := F)) 𝒱₀ () Set.univ := by
  intro t
  rw [bigSep_W0, bigSep_W0]
  refine BIBase.Entails.trans ?_ ((body_at m c t).trans (wp_mono _ _ _ fun _ => ?_))
  · unfold given inputs outBefore
    iintro ⟨Hi, HO, ⟨%d0, H0⟩, ⟨%d1, H1⟩, ⟨%d2, H2⟩, ⟨%d3, H3⟩, H4⟩
    ihave HO := (owing_of m c t.castSucc) $$ HO
    ihave H0 := (Entails.of_eq (congrArg (has c (st0_0 t)) (before_in m c t d0))) $$ H0
    ihave H1 := (Entails.of_eq (congrArg (has c (st0_1 t)) (before_gate m c t d1))) $$ H1
    ihave H2 := (Entails.of_eq (congrArg (has c (st0_2 t)) (before_up m c t d2))) $$ H2
    ihave H3 := (Entails.of_eq (congrArg (has c (st0_3 t)) (before_down m c t d3))) $$ H3
    isplitl [Hi]; · iapply (Entails.of_eq (show (dats m 0 c).Φ t.castSucc = inv m c t.val from rfl)); iexact Hi
    isplitl [HO]; · iexact HO
    isplitr [H4]
    · iframe
    · iexact H4
  · unfold back inputs
    rw [output_eq]
    iintro ⟨Hi, HO, ⟨H0, H1, H2, H3⟩, H4⟩
    isplitl [Hi]; · iapply (Entails.of_eq (show inv m c (t.val + 1) = (dats m 0 c).Φ t.succ from rfl)); iexact Hi
    isplitl [HO]; · iapply (owing_to m c t.succ); iexact HO
    isplitl [H0]; · iexact H0
    isplitl [H1]; · iexact H1
    isplitl [H2]; · iexact H2
    isplitl [H3]; · iexact H3
    iexact H4

end Cert.RingProof

end
-- ==== Proof.Credits.lean ====
/-
What the devices owe together is what each may wait for: two units on every barrier, one transfer's credit
on every receive cell. A device's cells, one by one.
-/
module

public import proofs.«01_k».proof.Proof.Around

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

/-- A device's cells: the barrier, the send cells, the receive cells. -/
theorem bigSep_site (Φ : Site → sProp 𝕄) : bigSep Finset.univ Φ
    = iprop(Φ none ∗ (bigSep Finset.univ fun j : Fin 12 => Φ (some (false, j))) ∗ bigSep Finset.univ fun j : Fin 12 => Φ (some (true, j))) := by
  have e (Ψ : Bool × Fin 12 → sProp 𝕄) : bigSep Finset.univ Ψ
      = iprop((bigSep Finset.univ fun j : Fin 12 => Ψ (false, j)) ∗ bigSep Finset.univ fun j : Fin 12 => Ψ (true, j)) := by
    rw [bigSep_univ_prod, bigSep_univ_eq_bigSepL [false, true] (by decide) (by decide), bigSepL_cons_cons, bigSepL_singleton]
    rfl
  rw [bigSep_univ_equiv (Equiv.optionEquivSumPUnit.{0} (Bool × Fin 12)).symm Φ, bigSep_univ_sum]
  rw [show (bigSep Finset.univ fun b : PUnit.{1} => Φ ((Equiv.optionEquivSumPUnit.{0} (Bool × Fin 12)).symm (.inr b))) = Φ none from
    bigSep_univ_of_subsingleton PUnit.unit]
  rw [show (bigSep Finset.univ fun a : Bool × Fin 12 => Φ ((Equiv.optionEquivSumPUnit.{0} (Bool × Fin 12)).symm (.inl a)))
    = bigSep Finset.univ fun a : Bool × Fin 12 => Φ (some a) from rfl, e fun a => Φ (some a)]
  exact Idealize.SL.BI.Entails.antisymm Idealize.SL.BI.sep_comm Idealize.SL.BI.sep_comm

theorem semOf_inj : Function.Injective semOf := fun x y h => by
  have := congrArg siteOf h
  rw [siteOf_semOf, siteOf_semOf] at this
  exact Option.some.inj this

theorem cell_inj {c d : Dev nD} {x y : Site} (h : cell c x = cell d y) : c = d ∧ x = y :=
  ⟨congrArg (fun g : GSem nD τ sig => g.1.1) h, semOf_inj (congrArg Prod.snd h)⟩

theorem barrier_ne {x : Bool × Fin 12} (h : (none : Site) = some x) : False := by cases h

/-! ## What is owed a cell -/

/-- A device owes a receive cell its transfer's credit once for each time the transfer is listed, if the cell is its neighbour's. -/
theorem owed_recv (c d : Dev nD) (j : Fin 12) (l : List (Fin 12)) :
    owed c l (rCell d j) () = l.count j * (if c = src (dir j) d then N else 0) := by
  induction l with
  | nil => exact (Nat.zero_mul _).symm
  | cons i l ih =>
    unfold owed
    rw [Pi.add_apply, Finsupp.add_apply, ih, tallyAt_apply, List.count_cons, Nat.add_mul]
    congr 1
    by_cases e : i = j
    · subst e
      rw [beq_self_eq_true, if_pos rfl, Nat.one_mul]
      by_cases h : c = src (dir i) d
      · rw [if_pos h, if_pos ⟨by subst h; unfold peer; rw [dst_src], rfl⟩]
      · rw [if_neg h, if_neg fun h' => h (by rw [(cell_inj h'.1).1, src_dst])]
    · have e' : (i == j) = false := beq_eq_false_iff_ne.mpr e
      rw [e', if_neg Bool.false_ne_true, Nat.zero_mul, if_neg fun h' => e (congrArg Prod.snd (Option.some.inj (cell_inj h'.1).2)).symm]

theorem owed_barrier (c d : Dev nD) (l : List (Fin 12)) : owed c l (cell d none) () = 0 := by
  induction l with
  | nil => rfl
  | cons i l ih =>
    unfold owed
    rw [Pi.add_apply, Finsupp.add_apply, ih, tallyAt_apply, if_neg fun h => barrier_ne (cell_inj h.1).2]

theorem order_count : ∀ j, order.count j = 1 := by decide

/-- A device owes a receive cell a transfer's credit if the cell is that of the neighbour it sends to. -/
theorem start_recv (c d : Dev nD) (j : Fin 12) : owedStart c (rCell d j) () = if c = src (dir j) d then N else 0 := by
  unfold owedStart
  rw [Pi.add_apply, Finsupp.add_apply, Pi.add_apply, Finsupp.add_apply, tallyAt_apply, tallyAt_apply,
    if_neg fun h => barrier_ne (cell_inj h.1).2.symm, if_neg fun h => barrier_ne (cell_inj h.1).2.symm, owed_recv, order_count, Nat.one_mul]
  rfl

/-- A device owes a barrier a unit for each of its two sides the barrier is on. -/
theorem start_barrier (c d : Dev nD) :
    owedStart c (cell d none) () = (if c = src true d then 1 else 0) + (if c = src false d then 1 else 0) := by
  have e (b : Bool) : (if cell d none = cell (dst b c) none ∧ () = () then 1 else 0) = if c = src b d then 1 else 0 := by
    by_cases h : c = src b d
    · rw [if_pos h, if_pos ⟨by subst h; rw [dst_src], rfl⟩]
    · rw [if_neg h, if_neg fun h' => h (by rw [(cell_inj h'.1).1, src_dst])]
  unfold owedStart
  rw [Pi.add_apply, Finsupp.add_apply, Pi.add_apply, Finsupp.add_apply, tallyAt_apply, tallyAt_apply, owed_barrier, Nat.zero_add, e, e]

/-! ## What is credited at the launch -/

theorem credit_recv (c : Dev nD) (j : Fin 12) :
    tallyOn (rCell c j) (launchCredit (Pipeline.owing owedStart) 0 (rCell c j)) = (tallyAt (rCell c j) () N : CellTallies nD τ sig Unit) := by
  unfold tallyAt
  refine congrArg _ (Finsupp.ext fun u => ?_)
  cases u
  rw [Pipeline.launchCredit_owing, Finsupp.single_eq_same, Finset.sum_congr rfl fun d _ => start_recv d c j,
    Finset.sum_ite_eq' Finset.univ (src (dir j) c) fun _ => N, if_pos (Finset.mem_univ _)]

theorem credit_barrier (c : Dev nD) :
    tallyOn (cell c none) (launchCredit (Pipeline.owing owedStart) 0 (cell c none)) = (tallyAt (cell c none) () 2 : CellTallies nD τ sig Unit) := by
  unfold tallyAt
  refine congrArg _ (Finsupp.ext fun u => ?_)
  cases u
  rw [Pipeline.launchCredit_owing, Finsupp.single_eq_same, Finset.sum_congr rfl fun d _ => start_barrier d c, Finset.sum_add_distrib,
    Finset.sum_ite_eq' Finset.univ (src true c) fun _ => 1, Finset.sum_ite_eq' Finset.univ (src false c) fun _ => 1,
    if_pos (Finset.mem_univ _), if_pos (Finset.mem_univ _)]

/-- A device's credit: two units at its barrier, a transfer's at each of its receive cells. -/
theorem credits (c : Dev nD) : (Pipeline.launchCred owedStart c : sProp 𝕄)
    ⊢ iprop(cred (tallyAt (cell c none) () 2) ∗ bigSep Finset.univ fun j : Fin 12 => cred (tallyAt (rCell c j) () N)) := by
  unfold Pipeline.launchCred
  refine (bigSep_subset (Finset.subset_univ (Finset.univ.map ⟨semOf, semOf_inj⟩))).trans ?_
  rw [bigSep_map, bigSep_site]
  refine BIClass.sep_mono (Entails.of_eq (congrArg cred (credit_barrier c))) ?_
  iintro ⟨-, H⟩
  have h : (bigSep Finset.univ fun j : Fin 12 => (cred (tallyOn (rCell c j) (launchCredit (Pipeline.owing owedStart) 0 (rCell c j))) : sProp 𝕄))
      ⊢ bigSep Finset.univ fun j : Fin 12 => cred (tallyAt (rCell c j) () N) := bigSep_mono fun j _ => Entails.of_eq (congrArg cred (credit_recv c j))
  iapply h
  iexact H

end Cert.RingProof

end
-- ==== Proof.Ghost.lean ====
/-
The ring's ghost state at the launch: minted for every cell, the cells' invariants allocated, the duties'
tokens carried to the devices that pay them.
-/
module

public import proofs.«01_k».proof.Proof.Credits

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Alg ℕ

variable (A : Dev nD → FVec F S1536x1536 .f32)

/-- A cell of the ring by its device and its place. -/
abbrev at2 (x : Dev nD × Site) : GSem nD τ sig := cell x.1 x.2

theorem at2_inj : Function.Injective at2 := fun _ _ h => Prod.ext (cell_inj h).1 (cell_inj h).2

/-- The cells of the ring. -/
def ringCells : Finset (GSem nD τ sig) := Finset.univ.map ⟨at2, at2_inj⟩

/-- A token for either duty of every cell. -/
abbrev tokOf (x : (Dev nD × Site) × Bool) : GSem nD τ sig × ℕ × Bool := (at2 x.1, 0, x.2)

theorem tokOf_inj : Function.Injective tokOf := fun _ _ h =>
  Prod.ext (at2_inj (congrArg Prod.fst h)) (congrArg (fun y : GSem nD τ sig × ℕ × Bool => y.2.2) h)

def ringToks : Finset (GSem nD τ sig × ℕ × Bool) := Finset.univ.map ⟨tokOf, tokOf_inj⟩

/-- What the launch's ghost state starts as. -/
def u₀ : Alg := (initOf (Pipeline.cells cfgs cellOf_inj) (Pipeline.launchToks cfgs cellOf_inj), initOf ringCells ringToks)

/-- The tokens of a device's own cells. -/
def toks (c : Dev nD) : sProp 𝕄 := bigSep Finset.univ fun x : Site => bigSep Finset.univ fun d : Bool => dutyTok ER (cell c x) 0 d

/-- A device's positions at its cells. -/
def spots (c : Dev nD) : sProp 𝕄 := bigSep Finset.univ fun x : Site => atPos ER (cell c x) 0 ∅ 0

/-- The ghost state dealt to a device. -/
def dealt (c : Dev nD) : sProp 𝕄 :=
  iprop((bigSep Finset.univ fun x : Site => roundState ER (ringRd A) (cell c x) 0) ∗ (bigSep Finset.univ fun x : Site => reached ER (cell c x) 0)
    ∗ spots c ∗ toks c)

/-- Over the ring's cells is over the devices and their places. -/
theorem bigSep_cells (Φ : GSem nD τ sig → sProp 𝕄) :
    bigSep ringCells Φ = bigSep Finset.univ fun c : Dev nD => bigSep Finset.univ fun x : Site => Φ (cell c x) := by
  unfold ringCells
  rw [bigSep_map, bigSep_univ_prod]
  rfl

theorem bigSep_toks : (bigSep ringToks fun x => (dutyTok ER x.1 x.2.1 x.2.2 : sProp 𝕄)) = bigSep Finset.univ fun c : Dev nD => toks c := by
  unfold ringToks
  rw [bigSep_map, bigSep_univ_prod, bigSep_univ_prod]
  rfl

theorem fund_ring : BI.own (ER (initOf ringCells ringToks)) ⊢ (|==> bigSep Finset.univ (dealt A) : sProp 𝕄) := by
  iintro H
  imod (Rounds.fund ER (ringRd A) ringCells ringToks) $$ H with ⟨Hs, Hr, Ha, Ht⟩
  imodintro
  ihave Hs := (Entails.of_eq (bigSep_cells fun g => roundState ER (ringRd A) g 0)) $$ Hs
  ihave Hr := (Entails.of_eq (bigSep_cells fun g => reached ER g 0)) $$ Hr
  ihave Ha := (Entails.of_eq (bigSep_cells fun g => atPos ER g 0 ∅ 0)) $$ Ha
  ihave Ht := (Entails.of_eq (bigSep_toks (F := F))) $$ Ht
  unfold dealt spots
  simp only [bigSep_sep']
  iframe

/-! ## The invariants -/

/-- The transfers' semaphores. -/
abbrev osem (x : Bool × Fin 12) : SemLoc sig := semOf (some x)

theorem ownSemFacts : Pipeline.OwnSemFacts cfg0.spec osem := by decide

theorem own_eq (c : Dev nD) : (Pipeline.ownSems0 (Ix := Unit) (Name := ℕ) (U := Alg) (Lvl := ℕ) (Val := Elt F) (τ := τ) osem c : sProp 𝕄)
    = iprop((bigSep Finset.univ fun j : Fin 12 => semVal (sCell c j) 0) ∗ bigSep Finset.univ fun j : Fin 12 => semVal (rCell c j) 0) := by
  unfold Pipeline.ownSems0
  rw [bigSep_univ_prod, bigSep_univ_eq_bigSepL [false, true] (by decide) (by decide), bigSepL_cons_cons, bigSepL_singleton]
  rfl

theorem unscoped_eq (c : Dev nD) : (unscopedSems0 c : sProp 𝕄) = semVal (cell c none) 0 := by
  unfold unscopedSems0
  rw [bigSep_eq_bigSepL_of_eq [SemLoc.reg barrier0] (by decide) (by decide)]
  rfl

theorem zeros (c : Dev nD) : iprop(Pipeline.ownSems0 (Ix := Unit) (Name := ℕ) (U := Alg) (Lvl := ℕ) (Val := Elt F) (τ := τ) osem c ∗ unscopedSems0 c)
    ⊢ (bigSep Finset.univ fun x : Site => semVal (cell c x) 0 : sProp 𝕄) := by
  rw [own_eq, unscoped_eq, bigSep_site]
  iintro ⟨⟨H1, H2⟩, H3⟩
  iframe

theorem alloc (c : Dev nD) :
    iprop(Pipeline.ownSems0 (Ix := Unit) (Name := ℕ) (U := Alg) (Lvl := ℕ) (Val := Elt F) (τ := τ) osem c ∗ unscopedSems0 c ∗ dealt A c)
      ⊢ |={Set.univ}=> iprop((bigSep Finset.univ fun x : Site => iprop(∃ κ : ℕ, cellInv ER (ringRd A) κ (cell c x)))
        ∗ (bigSep Finset.univ fun x : Site => reached ER (cell c x) 0) ∗ spots c ∗ toks c) := by
  have h : iprop((bigSep Finset.univ fun x : Site => semVal (cell c x) 0) ∗ bigSep Finset.univ fun x : Site => roundState ER (ringRd A) (cell c x) 0)
      ⊢ (|={Set.univ}=> bigSep Finset.univ fun x : Site => iprop(∃ κ : ℕ, cellInv ER (ringRd A) κ (cell c x)) : sProp 𝕄) := by
    rw [← bigSep_sep']
    exact (bigSep_mono fun x _ => (Rounds.body_intro ER (ringRd A) (cell c x)).trans inv_alloc).trans (bigSep_fupd _ _)
  unfold dealt
  iintro ⟨Ho, Hu, Hs, Hr, Ha, Ht⟩
  ihave Hz := (zeros (F := F) c) $$ [Ho Hu]
  · isplitl [Ho] <;> iassumption
  imod h $$ [Hz Hs] with Hi
  · isplitl [Hz] <;> iassumption
  imodintro
  iframe

/-! ## The tokens, to the devices that pay them -/

/-- The tokens of the duties a device pays. -/
def payToks (c : Dev nD) : sProp 𝕄 :=
  iprop(dutyTok ER (cell (dst false c) none) 0 true ∗ dutyTok ER (cell (dst true c) none) 0 false
    ∗ (bigSep Finset.univ fun j : Fin 12 => dutyTok ER (sCell c j) 0 false) ∗ bigSep Finset.univ fun j : Fin 12 => dutyTok ER (rCell (peer j c) j) 0 false)

theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

/-- Of its own cells' tokens those that are paid: the barrier's two, one of every transfer's cells. -/
theorem toks_used (c : Dev nD) : toks (F := F) c ⊢ iprop(dutyTok ER (cell c none) 0 true ∗ dutyTok ER (cell c none) 0 false
    ∗ (bigSep Finset.univ fun j : Fin 12 => dutyTok ER (sCell c j) 0 false) ∗ bigSep Finset.univ fun j : Fin 12 => dutyTok ER (rCell c j) 0 false) := by
  have h (b : Bool) : (bigSep Finset.univ fun j : Fin 12 => bigSep Finset.univ fun d : Bool => (dutyTok ER (cell c (some (b, j))) 0 d : sProp 𝕄))
      ⊢ bigSep Finset.univ fun j : Fin 12 => dutyTok ER (cell c (some (b, j))) 0 false := bigSep_mono fun j _ => bigSep_elim (Finset.mem_univ false)
  unfold toks
  rw [bigSep_site, bigSep_bool]
  iintro ⟨⟨H1, H2⟩, H3, H4⟩
  ihave H3 := (h false) $$ H3
  ihave H4 := (h true) $$ H4
  iframe

theorem tokens_around : (bigSep Finset.univ fun c : Dev nD => (toks c : sProp 𝕄)) ⊢ bigSep Finset.univ fun c : Dev nD => payToks c := by
  have e : (bigSep Finset.univ fun c : Dev nD => bigSep Finset.univ fun j : Fin 12 => (dutyTok ER (rCell c j) 0 false : sProp 𝕄))
      = bigSep Finset.univ fun c : Dev nD => bigSep Finset.univ fun j : Fin 12 => dutyTok ER (rCell (peer j c) j) 0 false := by
    rw [bigSep_univ_comm, bigSep_univ_comm (fun (c : Dev nD) (j : Fin 12) => (dutyTok ER (rCell (peer j c) j) 0 false : sProp 𝕄))]
    exact bigSep_congr fun j _ => bigSep_univ_equiv (turn (dir j)) _
  refine (bigSep_mono fun c _ => toks_used c).trans ?_
  unfold payToks
  rw [bigSep_sep', bigSep_sep', bigSep_sep', bigSep_sep', bigSep_sep', bigSep_sep', e,
    bigSep_univ_equiv (turn false) (fun c : Dev nD => (dutyTok ER (cell c none) 0 true : sProp 𝕄)),
    bigSep_univ_equiv (turn true) (fun c : Dev nD => (dutyTok ER (cell c none) 0 false : sProp 𝕄))]
  exact Idealize.SL.BI.Entails.refl _

/-! ## What every device starts with -/

/-- What all know of the cells. -/
def records (K : Dev nD × Site → ℕ) : sProp 𝕄 :=
  iprop((bigSep Finset.univ fun x : Dev nD × Site => cellInv ER (ringRd A) (K x) (cell x.1 x.2))
    ∗ bigSep Finset.univ fun x : Dev nD × Site => reached ER (cell x.1 x.2) 0)

instance records_persistent (K : Dev nD × Site → ℕ) : BI.Persistent (records A K) := by unfold records; infer_instance

/-- A device's ghost state, the invariants allocated. -/
def ready (c : Dev nD) : sProp 𝕄 := iprop(∃ K, records A K ∗ spots c ∗ payToks c)

theorem regroup :
    (bigSep Finset.univ fun c : Dev nD => iprop((bigSep Finset.univ fun x : Site => iprop(∃ κ : ℕ, cellInv ER (ringRd A) κ (cell c x)))
        ∗ (bigSep Finset.univ fun x : Site => reached ER (cell c x) 0) ∗ spots c ∗ toks c) : sProp 𝕄) ⊢ bigSep Finset.univ (ready A) := by
  rw [bigSep_sep', bigSep_sep', bigSep_sep', ← bigSep_univ_prod (fun x : Dev nD × Site => iprop(∃ κ : ℕ, cellInv ER (ringRd A) κ (cell x.1 x.2))),
    ← bigSep_univ_prod (fun x : Dev nD × Site => (reached ER (cell x.1 x.2) 0 : sProp 𝕄))]
  iintro ⟨HI, #HR, Ha, Ht⟩
  ihave HK := (BI.bigSep_exists_pi Finset.univ (fun (x : Dev nD × Site) (κ : ℕ) => (cellInv ER (ringRd A) κ (cell x.1 x.2) : sProp 𝕄))) $$ HI
  icases HK with ⟨%K, #HI⟩
  ihave Ht := (tokens_around (F := F)) $$ Ht
  have h : ∀ c ∈ (Finset.univ : Finset (Dev nD)), iprop(records A K ∗ iprop(spots c ∗ payToks c)) ⊢ ready A c := fun c _ => by
    unfold ready
    iintro H
    iexists K
    iexact H
  iapply (bigSep_with_persistent h)
  isplitr
  · unfold records
    isplitl
    · iexact HI
    · iexact HR
  · iapply (Entails.of_eq (bigSep_sep' Finset.univ (fun c : Dev nD => spots (F := F) c) payToks).symm)
    isplitl [Ha] <;> iassumption

/-- The launch's update, over all devices at once. -/
theorem glob : (bigSep Finset.univ fun c => iprop(Pipeline.ownSems0 (Ix := Unit) (Name := ℕ) (U := Alg) (Lvl := ℕ) (Val := Elt F) (τ := τ) osem c
      ∗ unscopedSems0 c ∗ dealt A c) : sProp 𝕄) ⊢ |={Set.univ}=> bigSep Finset.univ (ready A) :=
  ((bigSep_mono fun c _ => alloc A c).trans (bigSep_fupd _ _)).trans (BI.fupd_mono (regroup A))

/-- A device's ghost state, its credits and the levels are what it needs to enter the ring. -/
theorem start_of (c : Dev nD) : iprop(levAts L lv ∗ Pipeline.launchCred owedStart c ∗ ready A c) ⊢ start A c := by
  unfold ready spots payToks start known records
  rw [bigSep_site]
  iintro ⟨#HL, Hc, ⟨%K, ⟨#HI, #HR⟩, ⟨Ha, Has, Har⟩, Ht1, Ht2, Hts, Htr⟩⟩
  ihave Hc := (credits (F := F) c) $$ Hc
  icases Hc with ⟨Hc, Hcr⟩
  iexists K
  isplitr
  · isplitl
    · iexact HI
    isplitl
    · iexact HR
    · iexact HL
  isplitl [Ht1]; · iexact Ht1
  isplitl [Ht2]; · iexact Ht2
  isplitl [Ha]; · iexact Ha
  isplitl [Hc]; · iexact Hc
  unfold idle
  simp only [bigSep_sep']
  iframe

end Cert.RingProof

end
-- ==== Proof.Run.lean ====
/-
The run of the kernel on the four devices: every fair execution ends, each device's result array holds the
rounded sums of all devices' accumulators, its arguments are unchanged and every semaphore is at zero.
-/
module

public import proofs.«01_k».proof.Proof.Data
public import proofs.«01_k».proof.Proof.Ghost
public import Idealize.ShloMosaic.Lib.Pipeline.CollectiveSegs

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Alg ℕ

variable (m : (ℓ : Loc nD τ sig) → Buf (Elt F) ℓ) (ρ : Dev nD → PrngReg)

theorem share_full (c : Dev nD) (w : Fin cfg0.W) : (dats m 0 c).share w = fullShare := by unfold Dat.share; split <;> rfl

/-- A scratch buffer with any contents. -/
theorem any_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) :=
  congrArg _ (funext fun X => (owns_whole (Val := Elt F) (Ix := Unit) (Name := ℕ) (U := Alg) (Lvl := ℕ) (c : Thread nD τ) b fullShare X).symm)

/-- The scratch buffers, with any contents. -/
theorem scratch_eq (c : Dev nD) : (Pipeline.scopedRest (Ix := Unit) (Name := ℕ) (U := Alg) (Lvl := ℕ) (Val := Elt F) cfg0.spec c : sProp 𝕄)
    = iprop((∃ X, has c xbf X) ∗ (∃ B, has c accM B) ∗ commAny (F := F) c) :=
  (scopedRest0_eq c).trans (by rw [any_eq c cc0_scratch0, any_eq c cc0_scratch1]; rfl)

theorem start_intro (c : Dev nD) :
    iprop(Pipeline.unscopedRestP Pipeline.Prefetch.none cfg0.spec c (fun b => m ((c : Thread nD τ).loc b)) ∗ levAts L lv
        ∗ Pipeline.launchCred owedStart c ∗ prngReg c (ρ c) ∗ ready (accs m) c)
      ⊢ |={Set.univ}=> iprop(start (accs m) c ∗ emp) := by
  iintro ⟨-, Hl, Hc, -, Hr⟩
  imodintro
  isplitl
  · iapply (start_of (accs m) c)
    iframe
  · iempintro

theorem enter (c : Dev nD) :
    iprop(start (accs m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atStart m c from rfl, scratch_eq]
  unfold atStart
  iintro ⟨Hs, -, H0, H1, H2⟩
  iframe

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = atEnd (F := F) c from rfl, scratch_eq, own_eq, unscoped_eq]
  unfold atEnd done ended
  simp only [bigSep_sep']
  iintro ⟨H0, H1, H2, Hz, Hs, Hr⟩
  iframe

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      change dues c t.val = owedStart c ∨ dues c t.val = 0
      unfold dues
      split
      · exact Or.inl rfl
      · exact Or.inr rfl)

/-- Every window's array at the end holds what the contract says. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

/-- On four devices, for any float values, from any memory with zero semaphores, every fair execution ends with the arrays as
the contract says and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := owedStart) (howed₀ := fun _ => rfl) (howedN := fun _ => rfl)
    (L := L) (lv := lv) (hL := L_of_ne) (hwaits := waits m)
    (G := dealt (accs m)) (G' := ready (accs m)) (u₀ := u₀)
    (hu₀ := by
      unfold u₀
      iintro Hu
      ihave H := (ownU_pair _ _) $$ Hu
      icases H with ⟨HP, HX⟩
      imod (fund_ring (accs m)) $$ HX with HG
      imodintro
      isplitl [HP] <;> iassumption)
    (hglob := glob (accs m))
    (hA := fun _ _ => rfl) (hpf := fun _ k => k.elim0)
    (X := start (accs m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingProof

end
-- ==== Proof.Result.lean ====
/-
The run, read at the program's own arrays: the arguments are unchanged, and the result array holds the
eight half blocks of the ring's totals.
-/
module

public import proofs.«01_k».proof.Proof.Run
public import Idealize.ShloMosaic.Lib.Pipeline.Value

@[expose] public section

set_option maxRecDepth 16384

noncomputable section

namespace Cert.RingProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result. -/
def result : FVec F S1536x1536 .bf16 := glue (resBlk (accs m))

/-- The last point. -/
def tLast : Fin cfg0.N := ⟨11, by decide⟩

/-- The result's window takes the whole array, at every point from its first entry. -/
theorem out_index : ∀ (t : Fin grid0.N) (a : Fin 2), win0_4.index t a * win0_4.size a = 0 := by decide +kernel

/-- What is written back is the result, -/
theorem flushed_eq (c : Dev nD) (t : Fin cfg0.N) :
    (dats m 0 c).flushed 4 t = ((cfg0.win 4).blk t).view.read (Elt F) (result m : Buf (Elt F) ((c : Thread nD τ).loc main_v1)) := by
  have hz : (fun a => win0_4.index t a * main_v1.ty.shape.size a) = fun _ => 0 := funext fun a => out_index t a
  exact (Memref.read_access_unit_zero (Elt F) main_v1 hz (fun a => by rw [congrFun hz a]; simp) (result m)).symm

/-- over the whole array; -/
theorem out_cover (i : S1536x1536.Idx) : ∃ t : Fin cfg0.N, (cfg0.win 4).flush t = true ∧ i ∈ ((cfg0.win 4).blk t).view.set := by
  refine ⟨tLast, (flush_iff tLast).mpr rfl, ?_⟩
  change i ∈ ((View.whole main_v1).slice (win0_4.rect tLast)).set
  rw [View.set_slice_whole, Rect.mem_set_unit]
  intro a
  have ha : win0_4.index tLast a * win0_4.size a = 0 := out_index tLast a
  have hs : win0_4.xsize (grid0.coords tLast) a = 1536 := by revert a; decide +kernel
  have hi : (i a).val < 1536 := lt_of_lt_of_eq (i a).isLt (by revert a; decide)
  change win0_4.index tLast a * win0_4.size a ≤ (i a).val ∧ (i a).val < win0_4.index tLast a * win0_4.size a + win0_4.xsize (grid0.coords tLast) a
  rw [ha, hs]
  omega

/-- so the result array ends holding it. -/
theorem final_out (c : Dev nD) : (dats m 0 c).arrAt 4 cfg0.N = (result m : Buf (Elt F) ((c : Thread nD τ).loc main_v1)) :=
  (dats m 0 c).arrAt_eq_of_cover 4 (result m) (fun t _ => flushed_eq m c t) out_cover

/-- Every fair execution ends with the result in every device's result array, the arguments as they were and every semaphore
at zero. -/
theorem run_result : θ_run defs (onTc (τ := τ) (main (F := F))) ⟨m, fun _ => 0, ρ⟩ fun r =>
    (∀ c : Dev nD, r.2.mem ((c : Thread nD τ).loc main_v1) = result m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 :=
  (θ_run defs _ _).mono (fun _ h => ⟨fun c => ⟨(h.1 c 4).trans (final_out m c),
      (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _)⟩, h.2⟩)
    (run_main m ρ)

/-- The same without the result. -/
theorem run_args : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 :=
  (θ_run defs _ _).mono (fun _ h => ⟨fun c => (h.1 c).2, h.2⟩) (run_result m ρ)

end Cert.RingProof

end
-- ==== Proof.Chunk.lean ====
/-
What one chunk adds to the accumulator, over the extended reals: the entry at row `r` and column `l` grows
by the sum, over the chunk's 256 hidden columns, of the gated entry times the down weight.
-/
module

public import proofs.«01_k».proof.Proof.Gen.KernelIdeal.Skeleton
public import Idealize.ShloMosaic.Lib.Pointwise

@[expose] public section

set_option maxRecDepth 16384

noncomputable section

namespace Cert.RingValue

open Cert.KernelIdeal Cert.KernelIdeal.Gen
open Idealize.ShloMosaic

/-- An array of `a` rows and `b` columns of extended reals. -/
abbrev Mat (a b : ℕ) : Type := (⟨2, ![a, b]⟩ : Shape).Idx → EReal

/-- An entry of a product of two arrays. -/
def dotAt {a b n : ℕ} (X : Mat a b) (Y : Mat b n) (r : Fin a) (k : Fin n) : EReal := ∑ j : Fin b, X (ix2 r j) * Y (ix2 j k)

/-- An entry of the gated hidden array: the gate's product times the up product times its sigmoid. -/
def hidden {n : ℕ} (X : Mat 1536 1536) (G U : Mat 1536 n) (r : Fin 1536) (k : Fin n) : EReal :=
  dotAt X G r k * dotAt X U r k * Ideal.logistic (dotAt X U r k)

theorem chunk_apply (X : Mat 1536 1536) (G U : Mat 1536 256) (D : Mat 256 1536) (B : Mat 1536 1536) (r l : Fin 1536) :
    k0_pay3 (F := Ideal) X G U D B (ix2 r l) = B (ix2 r l) + ∑ k : Fin 256, hidden X G U r k * D (ix2 k l) := by
  pointwise [k0_pay3]
  rfl

theorem zero_apply (i : S1536x1536.Idx) : k0_pay2 (F := Ideal) i = 0 := by
  pointwise [k0_pay2]

theorem copy_eq (X : Mat 1536 1536) : k0_pay1 (F := Ideal) X = X := by
  funext i
  pointwise [k0_pay1]

end Cert.RingValue

end
-- ==== Proof.Total.lean ====
/-
The ring's totals, over the extended reals: every entry of the result is the sum of the four devices'
accumulators there.
-/
module

public import proofs.«01_k».proof.Proof.Result
public import proofs.«01_k».proof.Proof.Chunk

@[expose] public section

set_option maxRecDepth 16384

noncomputable section

namespace Cert.RingValue

open Cert.KernelIdeal Cert.KernelIdeal.Gen Cert.RingProof
open Idealize.ShloMosaic Idealize.ShloMosaic.TcCoe

/-- Going round the ring meets every device. -/
theorem sum_ring (b : Bool) (c : Dev nD) (f : Dev nD → EReal) :
    f (src b (src b (src b c))) + f (src b (src b c)) + f (src b c) + f c = ∑ d, f d := by
  have hn : ∀ (b : Bool) (c : Dev nD), (Finset.univ : Finset (Dev nD)) = {src b (src b (src b c)), src b (src b c), src b c, c} := by decide
  have h1 : ∀ (b : Bool) (c : Dev nD), src b (src b (src b c)) ∉ ({src b (src b c), src b c, c} : Finset (Dev nD)) := by decide
  have h2 : ∀ (b : Bool) (c : Dev nD), src b (src b c) ∉ ({src b c, c} : Finset (Dev nD)) := by decide
  have h3 : ∀ (b : Bool) (c : Dev nD), src b c ∉ ({c} : Finset (Dev nD)) := by decide
  rw [hn b c, Finset.sum_insert (h1 b c), Finset.sum_insert (h2 b c), Finset.sum_insert (h3 b c), Finset.sum_singleton]
  simp only [add_assoc]

/-- A total is the sum of the devices' half blocks. -/
theorem total_apply (A : Dev nD → Mat 1536 1536) (b : Bool) (c : Dev nD) (x : S192x1536.Idx) :
    total (F := Ideal) A b c x = ∑ d, rowsOf (A d) (half b c) x := by
  rw [← sum_ring b c]
  have h := src_four b c
  change rowsOf (A _) (half b (src b (src b (src b (src b c))))) x + rowsOf (A _) (half b (src b (src b (src b (src b c))))) x
    + rowsOf (A _) (half b (src b (src b (src b (src b c))))) x + rowsOf (A _) (half b (src b (src b (src b (src b c))))) x = _
  rw [h]

theorem resBlk_apply (A : Dev nD → Mat 1536 1536) (i : Fin 8) (x : S192x1536.Idx) :
    resBlk (F := Ideal) A i x = ∑ d, rowsOf (A d) i x := by
  have h : ∀ i : Fin 8, half (decide (i.val % 2 = 0)) (⟨i.val / 2, by have := i.isLt; change i.val / 2 < 4; omega⟩ : Dev nD) = i := by decide
  unfold resBlk
  rw [total_apply, h]

/-- An entry of the result. -/
theorem glue_apply (A : Dev nD → Mat 1536 1536) (i : S1536x1536.Idx) : glue (resBlk (F := Ideal) A) i = ∑ d, A d i := by
  unfold glue
  rw [resBlk_apply]
  refine Finset.sum_congr rfl fun d _ => ?_
  unfold rowsOf
  congr 1
  funext a
  apply Fin.ext
  have hi : (i 0).val < 1536 := (i 0).isLt
  match a with
  | ⟨0, _⟩ => change 192 * ((i 0).val / 192) + 1 * ((i 0).val % 192) = (i 0).val; omega
  | ⟨1, _⟩ => change 0 + 1 * (i 1).val = (i 1).val; omega

end Cert.RingValue

end
-- ==== Proof.Blocks.lean ====
/-
The blocks the kernel works on, as entries of the arguments: chunk `t` of the gate and up weights is columns
`256 t …`, and of the down weight rows `256 t …`.
-/
module

public import proofs.«01_k».proof.Proof.Result
public import proofs.«01_k».proof.Proof.Chunk
public import Idealize.ShloMosaic.Lib.Pipeline.ValueKit.Point

@[expose] public section

set_option maxRecDepth 16384

noncomputable section

namespace Cert.RingValue

open Cert.KernelIdeal Cert.KernelIdeal.Gen Cert.RingProof
open Idealize.ShloMosaic Idealize.ShloMosaic.TcCoe

variable (m : (ℓ : Loc nD τ sig) → Buf (Elt Ideal) ℓ) (c : Dev nD)

/-- The input of a device, and its parts of the gate, up and down weights. -/
def inX : Mat 1536 1536 := m ((c : Thread nD τ).loc main_arg0)
def inG : Mat 1536 3072 := m ((c : Thread nD τ).loc main_arg1)
def inU : Mat 1536 3072 := m ((c : Thread nD τ).loc main_arg2)
def inD : Mat 3072 1536 := m ((c : Thread nD τ).loc main_arg3)

/-- Hidden column `k` of chunk `t`. -/
def col (t : Fin 12) (k : Fin 256) : Fin 3072 := finProdFinEquiv (t, k)

theorem col_val (t : Fin 12) (k : Fin 256) : (col t k).val = k.val + 256 * t.val := rfl

theorem index_x : ∀ t : Fin grid0.N, win0_0.index t 0 = 0 ∧ win0_0.index t 1 = 0 := by decide +kernel
theorem index_g : ∀ t : Fin grid0.N, win0_1.index t 0 = 0 ∧ win0_1.index t 1 = t.val := by decide +kernel
theorem index_u : ∀ t : Fin grid0.N, win0_2.index t 0 = 0 ∧ win0_2.index t 1 = t.val := by decide +kernel
theorem index_d : ∀ t : Fin grid0.N, win0_3.index t 0 = t.val ∧ win0_3.index t 1 = 0 := by decide +kernel

theorem block_x (t : Fin cfg0.N) (r j : Fin 1536) : iblk m c 0 t (ix2 r j) = inX m c (ix2 r j) := by
  unfold inX
  have h := index_x t
  blk_ext [iblk, V, h.1, h.2]

theorem block_g (t : Fin cfg0.N) (r : Fin 1536) (k : Fin 256) : iblk m c 1 t (ix2 r k) = inG m c (ix2 r (col t k)) := by
  unfold inG
  have h := index_g t
  have e := col_val t k
  blk_ext [iblk, V, h.1, h.2]

theorem block_u (t : Fin cfg0.N) (r : Fin 1536) (k : Fin 256) : iblk m c 2 t (ix2 r k) = inU m c (ix2 r (col t k)) := by
  unfold inU
  have h := index_u t
  have e := col_val t k
  blk_ext [iblk, V, h.1, h.2]

theorem block_d (t : Fin cfg0.N) (k : Fin 256) (l : Fin 1536) : iblk m c 3 t (ix2 k l) = inD m c (ix2 (col t k) l) := by
  unfold inD
  have h := index_d t
  have e := col_val t k
  blk_ext [iblk, V, h.1, h.2]

end Cert.RingValue

end
-- ==== Proof.Accum.lean ====
/-
The accumulator of a device after its twelve chunks, over the extended reals: an entry is one sum over the
device's 3072 hidden columns.
-/
module

public import proofs.«01_k».proof.Proof.Blocks

@[expose] public section

set_option maxRecDepth 16384

noncomputable section

namespace Cert.RingValue

open Cert.KernelIdeal Cert.KernelIdeal.Gen Cert.RingProof
open Idealize.ShloMosaic Idealize.ShloMosaic.TcCoe

/-- A sum over `a` blocks of `b` is one sum over all. -/
theorem sum_blocks {a b : ℕ} (f : Fin (a * b) → EReal) : ∑ i : Fin a, ∑ j : Fin b, f (finProdFinEquiv (i, j)) = ∑ n, f n := by
  rw [← Fintype.sum_prod_type', ← Equiv.sum_comp finProdFinEquiv f]

/-- The term of a hidden column in an entry of the result. -/
def term {n : ℕ} (X : Mat 1536 1536) (G U : Mat 1536 n) (D : Mat n 1536) (r l : Fin 1536) (k : Fin n) : EReal :=
  hidden X G U r k * D (ix2 k l)

variable (m : (ℓ : Loc nD τ sig) → Buf (Elt Ideal) ℓ) (c : Dev nD)

theorem xOf_eq : xOf m c = inX m c := by
  unfold xOf
  refine (copy_eq (iblk m c 0 t0)).trans (funext fun i => ?_)
  rw [eq_ix2 i]
  exact block_x m c t0 (i 0) (i 1)

/-- A chunk's terms. -/
theorem chunk_term (t : Fin 12) (r l : Fin 1536) (k : Fin 256) :
    hidden (xOf m c) (iblk m c 1 t) (iblk m c 2 t) r k * iblk m c 3 t (ix2 k l)
      = term (inX m c) (inG m c) (inU m c) (inD m c) r l (col t k) := by
  have hg : dotAt (inX m c) (iblk m c 1 t) r k = dotAt (inX m c) (inG m c) r (col t k) :=
    Finset.sum_congr rfl fun j _ => congrArg (inX m c (ix2 r j) * ·) (block_g m c t j k)
  have hu : dotAt (inX m c) (iblk m c 2 t) r k = dotAt (inX m c) (inU m c) r (col t k) :=
    Finset.sum_congr rfl fun j _ => congrArg (inX m c (ix2 r j) * ·) (block_u m c t j k)
  unfold term hidden
  rw [xOf_eq, hg, hu]
  exact congrArg _ (block_d m c t k l)

theorem addChunk_apply (t : Fin 12) (B : Mat 1536 1536) (r l : Fin 1536) :
    addChunk m c t B (ix2 r l) = B (ix2 r l) + ∑ k : Fin 256, term (inX m c) (inG m c) (inU m c) (inD m c) r l (col t k) :=
  (chunk_apply (xOf m c) (iblk m c 1 t) (iblk m c 2 t) (iblk m c 3 t) B r l).trans
    (congrArg (B (ix2 r l) + ·) (Finset.sum_congr rfl fun k _ => chunk_term m c t r l k))

/-- After `n` chunks: their terms. -/
theorem accAt_apply (r l : Fin 1536) : ∀ n : ℕ, n ≤ 12 → accAt m c n (ix2 r l)
    = ∑ t ∈ (Finset.univ : Finset (Fin 12)).filter (fun t => t.val < n), ∑ k : Fin 256, term (inX m c) (inG m c) (inU m c) (inD m c) r l (col t k)
  | 0, _ => by
    rw [Finset.filter_false_of_mem (fun t _ => Nat.not_lt_zero t.val), Finset.sum_empty]
    exact zero_apply (ix2 r l)
  | n + 1, h => by
    have e : (Finset.univ : Finset (Fin 12)).filter (fun t => t.val < n + 1)
        = insert ⟨n, h⟩ ((Finset.univ : Finset (Fin 12)).filter (fun t => t.val < n)) := by
      ext t
      simp only [Finset.mem_filter, Finset.mem_univ, true_and, Finset.mem_insert, Fin.ext_iff]
      omega
    rw [e, Finset.sum_insert (by simp), ← accAt_apply r l n (by omega)]
    exact (congrFun (accAt_succ m c ⟨n, h⟩) (ix2 r l)).symm.trans ((addChunk_apply m c ⟨n, h⟩ (accAt m c n) r l).trans (add_comm _ _))

/-- After all: the terms of the device's hidden columns. -/
theorem accs_apply (r l : Fin 1536) : accs m c (ix2 r l) = ∑ n : Fin 3072, term (inX m c) (inG m c) (inU m c) (inD m c) r l n := by
  unfold accs
  rw [accAt_apply m c r l 12 le_rfl, Finset.filter_true_of_mem (fun t _ => t.isLt)]
  exact sum_blocks (a := 12) (b := 256) (term (inX m c) (inG m c) (inU m c) (inD m c) r l)

end Cert.RingValue

end
-- ==== Proof.Reference.lean ====
/-
What the reference computes, over the extended reals: an entry of its result is one sum over all 12288
hidden columns, of the terms the kernel adds.
-/
module

public import proofs.«01_k».proof.Proof.Accum
public import proofs.«01_k».proof.Proof.Gen.ReferenceIdeal.Run

@[expose] public section

set_option maxRecDepth 16384

noncomputable section

namespace Cert.RingValue

open Cert.ReferenceIdeal Cert.ReferenceIdeal.Gen
open Idealize.ShloMosaic Idealize.ShloMosaic.TcCoe

/-- Dividing by one plus the exponential of the opposite is multiplying by the sigmoid, at every extended real. -/
theorem silu_eq (u : EReal) : Ideal.div u (1 + Ideal.exp (-u)) = u * Ideal.logistic u := by
  have h : (1 : EReal) + Ideal.exp (-u) ≠ 0 := by
    have h0 : (0 : EReal) ≤ Ideal.exp (-u) := by
      induction u with
      | bot => exact le_top
      | top => exact le_rfl
      | coe x => exact EReal.coe_nonneg.mpr (Real.exp_pos (-x)).le
    exact (lt_of_lt_of_le zero_lt_one (le_add_of_nonneg_right h0)).ne'
  unfold Ideal.logistic Ideal.div
  rw [if_neg h, if_neg h, one_mul]

/-- The reference's product of the input and a weight, rounded. -/
def refDot (X : FVec Ideal S1536x1536 .bf16) (W : FVec Ideal S1536x12288 .bf16) : FVec Ideal S1536x12288 .bf16 :=
  truncf .bf16 (Host.dotGeneral dot_S1536x1536_S1536x12288_S1536x12288_1_0_0_1_n_n none X W : FVec Ideal S1536x12288 .f32) bitsLt_bf16_f32

/-- The reference's result. -/
def refOut (X : FVec Ideal S1536x1536 .bf16) (G U : FVec Ideal S1536x12288 .bf16) (D : FVec Ideal S12288x1536 .bf16) : FVec Ideal S1536x1536 .bf16 :=
  truncf .bf16 (Host.dotGeneral dot_S1536x12288_S12288x1536_S1536x1536_1_0_0_1_n_n none
    (mulf (refDot X G) (Host.divf (refDot X U)
      (addf (broadcastInDim S1536x12288 ![] bcast_S_S1536x12288 (constant S_ .bf16 0x3F80#16)) (Host.exp (Host.negf (refDot X U))))))
    D : FVec Ideal S1536x1536 .f32) bitsLt_bf16_f32

theorem refOut_apply (X : Mat 1536 1536) (G U : Mat 1536 12288) (D : Mat 12288 1536) (r l : Fin 1536) :
    refOut X G U D (ix2 r l) = ∑ n : Fin 12288, term X G U D r l n := by
  pointwise [refOut, refDot]
  refine Finset.sum_congr rfl fun n _ => ?_
  unfold term hidden
  rw [mul_assoc (dotAt X G r n), ← silu_eq]
  rfl

end Cert.RingValue

end
-- ==== Proof.Equation.lean ====
/-
The kernel's result and the reference's are equal over the extended reals, where every device holds the whole
input and its quarter of the weights' hidden columns: the sum over all hidden columns is cut by device.
-/
module

public import proofs.«01_k».proof.Proof.Total
public import proofs.«01_k».proof.Proof.Reference

@[expose] public section

set_option maxRecDepth 16384

noncomputable section

namespace Cert.RingValue

open Cert.KernelIdeal Cert.KernelIdeal.Gen Cert.RingProof
open Idealize.ShloMosaic Idealize.ShloMosaic.TcCoe

/-- Hidden column `n` of device `c`, of all. -/
def allCol (c : Fin 4) (n : Fin 3072) : Fin 12288 := finProdFinEquiv (c, n)

theorem allCol_val (c : Fin 4) (n : Fin 3072) : (allCol c n).val = n.val + 3072 * c.val := rfl

/-- A device's columns of a gate or up weight. -/
theorem cols_apply (G : Mat 1536 12288) (c : Fin 4) (r : Fin 1536) (n : Fin 3072) :
    Layout.block ⟨2, ![1536, 3072]⟩ ⟨2, ![1536, 12288]⟩ 1 4 c G (by decide) (ix2 r n) = G (ix2 r (allCol c n)) := by
  have e := allCol_val c n
  rw [Layout.block_apply]
  congr 1
  funext a
  apply Fin.ext
  rw [Layout.Tiles.idx_val]
  match a with
  | ⟨0, _⟩ => rfl
  | ⟨1, _⟩ => change c.val * 3072 + n.val = (allCol c n).val; omega

/-- A device's rows of the down weight. -/
theorem rows_apply (D : Mat 12288 1536) (c : Fin 4) (n : Fin 3072) (l : Fin 1536) :
    Layout.block ⟨2, ![3072, 1536]⟩ ⟨2, ![12288, 1536]⟩ 0 4 c D (by decide) (ix2 n l) = D (ix2 (allCol c n) l) := by
  have e := allCol_val c n
  rw [Layout.block_apply]
  congr 1
  funext a
  apply Fin.ext
  rw [Layout.Tiles.idx_val]
  match a with
  | ⟨0, _⟩ => change c.val * 3072 + n.val = (allCol c n).val; omega
  | ⟨1, _⟩ => rfl

variable (X : Mat 1536 1536) (G U : Mat 1536 12288) (D : Mat 12288 1536)

/-- A device's term of a hidden column is the whole arrays' term of that column. -/
theorem term_block (c : Fin 4) (r l : Fin 1536) (n : Fin 3072) :
    term X (Layout.block ⟨2, ![1536, 3072]⟩ ⟨2, ![1536, 12288]⟩ 1 4 c G (by decide))
        (Layout.block ⟨2, ![1536, 3072]⟩ ⟨2, ![1536, 12288]⟩ 1 4 c U (by decide))
        (Layout.block ⟨2, ![3072, 1536]⟩ ⟨2, ![12288, 1536]⟩ 0 4 c D (by decide)) r l n
      = term X G U D r l (allCol c n) := by
  unfold term hidden dotAt
  simp only [cols_apply, rows_apply]

variable (m : (ℓ : Loc nD τ sig) → Buf (Elt Ideal) ℓ)

theorem result_eq
    (h : ∀ c : Dev nD, inX m c = X ∧ inG m c = Layout.block ⟨2, ![1536, 3072]⟩ ⟨2, ![1536, 12288]⟩ 1 4 c G (by decide)
      ∧ inU m c = Layout.block ⟨2, ![1536, 3072]⟩ ⟨2, ![1536, 12288]⟩ 1 4 c U (by decide)
      ∧ inD m c = Layout.block ⟨2, ![3072, 1536]⟩ ⟨2, ![12288, 1536]⟩ 0 4 c D (by decide)) :
    result m = refOut X G U D := by
  funext i
  rw [eq_ix2 i]
  have hc : ∀ c : Dev nD, accs m c (ix2 (i 0) (i 1)) = ∑ n : Fin 3072, term X G U D (i 0) (i 1) (allCol c n) := fun c => by
    rw [accs_apply m c (i 0) (i 1), (h c).1, (h c).2.1, (h c).2.2.1, (h c).2.2.2]
    exact Finset.sum_congr rfl fun n _ => term_block X G U D c (i 0) (i 1) n
  refine (glue_apply (accs m) _).trans ?_
  refine ((Finset.sum_congr rfl fun c _ => hc c).trans ?_).trans (refOut_apply X G U D (i 0) (i 1)).symm
  exact sum_blocks (a := 4) (b := 3072) (term X G U D (i 0) (i 1))

end Cert.RingValue

end
-- ==== Proof.SameText.lean ====
/-
The two programs of the kernel have the same text: their body tables are equal, so the run of one is the
run of the other.
-/
module

public import proofs.«01_k».proof.Proof.Gen.Kernel
public import proofs.«01_k».proof.Proof.Result

@[expose] public section

set_option maxRecDepth 65536

noncomputable section

namespace Cert.RingProof

open Idealize.ShloMosaic Idealize.ShloMosaic.TcCoe Idealize.SL.Sem
open Cert.KernelIdeal (nD τ sig Λ₀)

variable {F : FTy → Type} [FloatOps F]

/-- The kernels' bodies. -/
theorem bodies_eq : (Cert.Kernel.defs₀ : Defs nD τ sig (Elt F) Λ₀) = Cert.KernelIdeal.defs₀ := by
  refine congrArg Defs.onTc (funext fun l => funext fun a => ?_)
  match l, a with
  | 0, (_, _) => rfl
  | ⟨_ + 1, h⟩, _ => exact absurd h (Nat.not_lt.2 (Nat.le_add_left _ _))

/-- With the regions'. -/
theorem tables_eq : (Cert.Kernel.defs : Defs nD τ sig (Elt F) (Pipeline.Sig Λ₀ (Fin 1) fun p => (Cert.KernelIdeal.pcfgs (F := F) p).Adm))
    = Cert.KernelIdeal.defs :=
  congrArg (Pipeline.defs (Cert.KernelIdeal.pcfgs (F := F))) bodies_eq

variable (m : (ℓ : Loc nD τ sig) → Buf (Elt F) ℓ) (ρ : Dev nD → PrngReg)

/-- The run of the kernel as it is deployed. -/
theorem run_args_kernel : θ_run (Cert.Kernel.defs (F := F)) (onTc (τ := Cert.Kernel.τ) (Cert.Kernel.main (F := F))) ⟨m, fun _ => 0, ρ⟩ fun r =>
    (∀ c : Dev Cert.Kernel.nD, r.2.mem ((c : Thread Cert.Kernel.nD Cert.Kernel.τ).loc Cert.Kernel.main_arg0) = m ((c : Thread Cert.Kernel.nD Cert.Kernel.τ).loc Cert.Kernel.main_arg0)
      ∧ r.2.mem ((c : Thread Cert.Kernel.nD Cert.Kernel.τ).loc Cert.Kernel.main_arg1) = m ((c : Thread Cert.Kernel.nD Cert.Kernel.τ).loc Cert.Kernel.main_arg1)
      ∧ r.2.mem ((c : Thread Cert.Kernel.nD Cert.Kernel.τ).loc Cert.Kernel.main_arg2) = m ((c : Thread Cert.Kernel.nD Cert.Kernel.τ).loc Cert.Kernel.main_arg2)
      ∧ r.2.mem ((c : Thread Cert.Kernel.nD Cert.Kernel.τ).loc Cert.Kernel.main_arg3) = m ((c : Thread Cert.Kernel.nD Cert.Kernel.τ).loc Cert.Kernel.main_arg3))
    ∧ r.2.sem = fun _ => 0 := by
  have h := run_args m ρ
  rw [← tables_eq] at h
  exact h

end Cert.RingProof

end
-- ==== Proof.lean ====
/-
The certificate: both programs of the kernel run to the end with the arguments unchanged and the semaphores
at zero, and over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.SL.Sem Cert.RingProof Cert.RingValue

theorem frame_kernelIdeal : Cert.quiescent_KernelIdeal := fun m ρ _ => run_args (F := Ideal) m ρ

/-- The two programs of the kernel have the same text, so one run serves both. -/
theorem frame_kernel : Cert.quiescent_Kernel := fun m ρ _ => run_args_kernel (F := Bits) m ρ

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem equal_results : Cert.algebraic_KernelIdeal_ReferenceIdeal := fun m ρ m' ρ' _ hin =>
  ⟨refOut _ _ _ _,
    (θ_run Cert.KernelIdeal.defs _ _).mono (fun _ h c => ⟨(h.1 c).1.trans (result_eq _ _ _ _ m hin), (h.1 c).2⟩) (run_result (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, equal_results⟩

end Cert.Proof

end
